-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x3 : Shape := ⟨2, ![32768, 3]⟩
abbrev S32768 : Shape := ⟨1, ![32768]⟩
abbrev S16x3 : Shape := ⟨2, ![16, 3]⟩
abbrev S16 : Shape := ⟨1, ![16]⟩
abbrev S32768x1 : Shape := ⟨2, ![32768, 1]⟩
abbrev S256x128 : Shape := ⟨2, ![256, 128]⟩
abbrev S16x128 : Shape := ⟨2, ![16, 128]⟩
abbrev S1x1 : Shape := ⟨2, ![1, 1]⟩
abbrev S1 : Shape := ⟨1, ![1]⟩
abbrev S32768x7 : Shape := ⟨2, ![32768, 7]⟩

abbrev nBuf : Space → Nat
  | .hbm => 47
  | .vmem => 28
  | .smem => 3
  | _ => 0

abbrev bufTy : (tb : Table) → Fin (tcTables nBuf tb) → BufTy
  | .hbm, ⟨0, _⟩ => ⟨S32768x3, .f32⟩
  | .hbm, ⟨1, _⟩ => ⟨S32768x3, .f32⟩
  | .hbm, ⟨2, _⟩ => ⟨S32768, .f32⟩
  | .hbm, ⟨3, _⟩ => ⟨S16x3, .f32⟩
  | .hbm, ⟨4, _⟩ => ⟨S16, .f32⟩
  | .hbm, ⟨5, _⟩ => ⟨S16, .f32⟩
  | .hbm, ⟨6, _⟩ => ⟨S32768x1, .f32⟩
  | .hbm, ⟨7, _⟩ => ⟨S32768, .f32⟩
  | .hbm, ⟨8, _⟩ => ⟨S32768x1, .f32⟩
  | .hbm, ⟨9, _⟩ => ⟨S32768, .f32⟩
  | .hbm, ⟨10, _⟩ => ⟨S32768x1, .f32⟩
  | .hbm, ⟨11, _⟩ => ⟨S32768, .f32⟩
  | .hbm, ⟨12, _⟩ => ⟨S32768x1, .f32⟩
  | .hbm, ⟨13, _⟩ => ⟨S32768, .f32⟩
  | .hbm, ⟨14, _⟩ => ⟨S32768x1, .f32⟩
  | .hbm, ⟨15, _⟩ => ⟨S32768, .f32⟩
  | .hbm, ⟨16, _⟩ => ⟨S32768x1, .f32⟩
  | .hbm, ⟨17, _⟩ => ⟨S32768, .f32⟩
  | .hbm, ⟨18, _⟩ => ⟨S256x128, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S32768, .f32⟩
  | .hbm, ⟨33, _⟩ => ⟨S32768, .f32⟩
  | .hbm, ⟨34, _⟩ => ⟨S32768, .f32⟩
  | .hbm, ⟨35, _⟩ => ⟨S32768, .f32⟩
  | .hbm, ⟨36, _⟩ => ⟨S32768, .f32⟩
  | .hbm, ⟨37, _⟩ => ⟨S32768, .f32⟩
  | .hbm, ⟨38, _⟩ => ⟨S32768, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x7, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | .local _ .vmem, ⟨16, _⟩ => ⟨S16x128, .f32⟩
  | .local _ .vmem, ⟨17, _⟩ => ⟨S16x128, .f32⟩
  | .local _ .vmem, ⟨18, _⟩ => ⟨S16x128, .f32⟩
  | .local _ .vmem, ⟨19, _⟩ => ⟨S16x128, .f32⟩
  | .local _ .vmem, ⟨20, _⟩ => ⟨S16x128, .f32⟩
  | .local _ .vmem, ⟨21, _⟩ => ⟨S16x128, .f32⟩
  | .local _ .vmem, ⟨22, _⟩ => ⟨S16x128, .f32⟩
  | .local _ .vmem, ⟨23, _⟩ => ⟨S16x128, .f32⟩
  | .local _ .vmem, ⟨24, _⟩ => ⟨S16x128, .f32⟩
  | .local _ .vmem, ⟨25, _⟩ => ⟨S16x128, .f32⟩
  | .local _ .vmem, ⟨26, _⟩ => ⟨S16x128, .f32⟩
  | .local _ .vmem, ⟨27, _⟩ => ⟨S16x128, .f32⟩
  | .local _ .smem, ⟨0, _⟩ => ⟨S16x3, .f32⟩
  | .local _ .smem, ⟨1, _⟩ => ⟨S16, .f32⟩
  | .local _ .smem, ⟨2, _⟩ => ⟨S16, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v19_2 : Ref sig .tc := ⟨.hbm, 27, rfl⟩
abbrev main_v19_3 : Ref sig .tc := ⟨.hbm, 28, rfl⟩
abbrev main_v19_4 : Ref sig .tc := ⟨.hbm, 29, rfl⟩
abbrev main_v19_5 : Ref sig .tc := ⟨.hbm, 30, rfl⟩
abbrev main_v19_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v191 : BitVec 32 := Scalar.addi c0_i32 c4_i32
  let c1_i32 : BitVec 32 := 1#32
  ⟨c0_i32, v191, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S32768x3 : Shape := ⟨2, ![32768, 3]⟩
abbrev S32768 : Shape := ⟨1, ![32768]⟩
abbrev S16x3 : Shape := ⟨2, ![16, 3]⟩
abbrev S16 : Shape := ⟨1, ![16]⟩
abbrev S_ : Shape := ⟨0, ![]⟩
abbrev S32768x1 : Shape := ⟨2, ![32768, 1]⟩
abbrev S32768x1x3 : Shape := ⟨3, ![32768, 1, 3]⟩
abbrev S1x16x3 : Shape := ⟨3, ![1, 16, 3]⟩
abbrev S32768x16x3 : Shape := ⟨3, ![32768, 16, 3]⟩
abbrev S32768x16 : Shape := ⟨2, ![32768, 16]⟩
abbrev S1x16 : Shape := ⟨2, ![1, 16]⟩
abbrev S32768x7 : Shape := ⟨2, ![32768, 7]⟩

abbrev nBuf : Space → Nat
  | .hbm => 166
  | .vmem => 0
  | .smem => 0
  | _ => 0

abbrev hbmTy0_0 (i : Nat) : BufTy := match i % 128 with
  | 0 => ⟨S32768x3, .f32⟩
  | 1 => ⟨S32768x3, .f32⟩
  | 2 => ⟨S32768, .f32⟩
  | 3 => ⟨S16x3, .f32⟩
  | 4 => ⟨S16, .f32⟩
  | 5 => ⟨S16, .f32⟩
  | 6 => ⟨S_, .f32⟩
  | 7 => ⟨S32768x3, .f32⟩
  | 8 => ⟨S32768x3, .f32⟩
  | 9 => ⟨S32768x3, .f32⟩
  | 10 => ⟨S_, .f32⟩
  | 11 => ⟨S32768, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x3, .f32⟩
  | 18 => ⟨S32768x3, .f32⟩
  | 19 => ⟨S_, .f32⟩
  | 20 => ⟨S16x3, .f32⟩
  | 21 => ⟨S16x3, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S_, .i32⟩
  | 29 => ⟨S16x3, .f32⟩
  | 30 => ⟨S16, .f32⟩
  | 31 => ⟨S16, .f32⟩
  | 32 => ⟨S_, .i32⟩
  | 33 => ⟨S32768x3, .f32⟩
  | 34 => ⟨S32768x3, .f32⟩
  | 35 => ⟨S32768, .f32⟩
  | 36 => ⟨S_, .i32⟩
  | 37 => ⟨S_, .i1⟩
  | 38 => ⟨S32768x1x3, .f32⟩
  | 39 => ⟨S1x16x3, .f32⟩
  | 40 => ⟨S32768x16x3, .f32⟩
  | 41 => ⟨S32768x16x3, .f32⟩
  | 42 => ⟨S32768x16x3, .f32⟩
  | 43 => ⟨S32768x1x3, .f32⟩
  | 44 => ⟨S32768x16x3, .f32⟩
  | 45 => ⟨S32768x16x3, .f32⟩
  | 46 => ⟨S_, .f32⟩
  | 47 => ⟨S32768x16, .f32⟩
  | 48 => ⟨S32768x16x3, .f32⟩
  | 49 => ⟨S_, .f32⟩
  | 50 => ⟨S32768x16, .f32⟩
  | 51 => ⟨S1x16, .f32⟩
  | 52 => ⟨S1x16, .f32⟩
  | 53 => ⟨S32768x16, .f32⟩
  | 54 => ⟨S32768x16, .f32⟩
  | 55 => ⟨S32768x16, .f32⟩
  | 56 => ⟨S32768x16, .f32⟩
  | 57 => ⟨S_, .f32⟩
  | 58 => ⟨S32768x16, .f32⟩
  | 59 => ⟨S32768x16, .i1⟩
  | 60 => ⟨S_, .f32⟩
  | 61 => ⟨S_, .f32⟩
  | 62 => ⟨S32768x16, .f32⟩
  | 63 => ⟨S32768x16, .f32⟩
  | 64 => ⟨S32768x16, .f32⟩
  | 65 => ⟨S32768x16, .f32⟩
  | 66 => ⟨S32768x16, .f32⟩
  | 67 => ⟨S32768x16, .f32⟩
  | 68 => ⟨S32768x16, .f32⟩
  | 69 => ⟨S_, .f32⟩
  | 70 => ⟨S32768x16, .f32⟩
  | 71 => ⟨S32768x16, .i1⟩
  | 72 => ⟨S32768x16, .i1⟩
  | 73 => ⟨S_, .f32⟩
  | 74 => ⟨S_, .f32⟩
  | 75 => ⟨S32768x16, .f32⟩
  | 76 => ⟨S32768x16, .f32⟩
  | 77 => ⟨S_, .f32⟩
  | 78 => ⟨S32768x16, .f32⟩
  | 79 => ⟨S32768x16, .i1⟩
  | 80 => ⟨S32768x16, .i1⟩
  | 81 => ⟨S_, .f32⟩
  | 82 => ⟨S_, .f32⟩
  | 83 => ⟨S32768x16, .f32⟩
  | 84 => ⟨S32768x16, .f32⟩
  | 85 => ⟨S32768x16, .f32⟩
  | 86 => ⟨S_, .f32⟩
  | 87 => ⟨S32768, .f32⟩
  | 88 => ⟨S32768x1, .f32⟩
  | 89 => ⟨S32768x16, .f32⟩
  | 90 => ⟨S32768x16, .i1⟩
  | 91 => ⟨S16, .i32⟩
  | 92 => ⟨S_, .i32⟩
  | 93 => ⟨S_, .i32⟩
  | 94 => ⟨S32768x16, .i32⟩
  | 95 => ⟨S32768x16, .i32⟩
  | 96 => ⟨S32768x16, .i32⟩
  | 97 => ⟨S_, .i32⟩
  | 98 => ⟨S32768, .i32⟩
  | 99 => ⟨S_, .f32⟩
  | 100 => ⟨S32768, .f32⟩
  | 101 => ⟨S32768, .i1⟩
  | 102 => ⟨S_, .f32⟩
  | 103 => ⟨S32768, .f32⟩
  | 104 => ⟨S32768, .i1⟩
  | 105 => ⟨S32768, .i1⟩
  | 106 => ⟨S_, .f32⟩
  | 107 => ⟨S_, .f32⟩
  | 108 => ⟨S32768, .f32⟩
  | 109 => ⟨S32768, .f32⟩
  | 110 => ⟨S32768x1, .f32⟩
  | 111 => ⟨S32768x3, .f32⟩
  | 112 => ⟨S32768x3, .f32⟩
  | 113 => ⟨S32768x3, .f32⟩
  | 114 => ⟨S_, .i32⟩
  | 115 => ⟨S32768, .i32⟩
  | 116 => ⟨S32768, .i1⟩
  | 117 => ⟨S_, .i32⟩
  | 118 => ⟨S32768, .i32⟩
  | 119 => ⟨S32768, .i32⟩
  | 120 => ⟨S32768, .i32⟩
  | 121 => ⟨S32768x1, .i32⟩
  | 122 => ⟨S32768x3, .f32⟩
  | 123 => ⟨S32768x3, .f32⟩
  | 124 => ⟨S_, .i32⟩
  | 125 => ⟨S32768, .i32⟩
  | 126 => ⟨S32768, .i1⟩
  | 127 => ⟨S_, .i32⟩
  | _ => ⟨S32768x3, .f32⟩

abbrev hbmTy0_1 (i : Nat) : BufTy := match i % 128 with
  | 0 => ⟨S32768, .i32⟩
  | 1 => ⟨S32768, .i32⟩
  | 2 => ⟨S32768, .i32⟩
  | 3 => ⟨S32768x1, .i32⟩
  | 4 => ⟨S32768, .f32⟩
  | 5 => ⟨S32768x1, .f32⟩
  | 6 => ⟨S32768x3, .f32⟩
  | 7 => ⟨S32768x3, .f32⟩
  | 8 => ⟨S32768x3, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S32768x3, .f32⟩
  | 16 => ⟨S32768x3, .f32⟩
  | 17 => ⟨S32768x3, .f32⟩
  | 18 => ⟨S_, .i32⟩
  | 19 => ⟨S32768, .i32⟩
  | 20 => ⟨S32768, .i1⟩
  | 21 => ⟨S_, .i32⟩
  | 22 => ⟨S32768, .i32⟩
  | 23 => ⟨S32768, .i32⟩
  | 24 => ⟨S32768, .i32⟩
  | 25 => ⟨S32768x1, .i32⟩
  | 26 => ⟨S32768, .f32⟩
  | 27 => ⟨S32768, .f32⟩
  | 28 => ⟨S32768x1, .i1⟩
  | 29 => ⟨S32768x3, .i1⟩
  | 30 => ⟨S32768x3, .f32⟩
  | 31 => ⟨S32768x3, .i1⟩
  | 32 => ⟨S32768x3, .f32⟩
  | 33 => ⟨S32768, .f32⟩
  | 34 => ⟨S_, .i32⟩
  | 35 => ⟨S_, .i32⟩
  | 36 => ⟨S32768x1, .f32⟩
  | 37 => ⟨S32768x7, .f32⟩
  | _ => ⟨S32768x3, .f32⟩

abbrev hbmTy (i : Nat) : BufTy := match i / 128 with
  | 0 => hbmTy0_0 i
  | 1 => hbmTy0_1 i
  | _ => ⟨S32768x3, .f32⟩

abbrev bufTy : (tb : Table) → Fin (tcTables nBuf tb) → BufTy
  | .hbm, ⟨i, _⟩ => hbmTy i
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev main_v13_4 : Ref sig .tc := ⟨.hbm, 33, rfl⟩
abbrev main_v13_5 : Ref sig .tc := ⟨.hbm, 34, rfl⟩
abbrev main_v13_6 : Ref sig .tc := ⟨.hbm, 35, rfl⟩
abbrev main_while0c_c_10 : Ref sig .tc := ⟨.hbm, 36, rfl⟩
abbrev main_while0c_v16 : Ref sig .tc := ⟨.hbm, 37, rfl⟩
abbrev main_while0b_v16 : Ref sig .tc := ⟨.hbm, 38, rfl⟩
abbrev main_while0b_v17 : Ref sig .tc := ⟨.hbm, 39, rfl⟩
abbrev main_while0b_v18 : Ref sig .tc := ⟨.hbm, 40, rfl⟩
abbrev main_while0b_v19 : Ref sig .tc := ⟨.hbm, 41, rfl⟩
abbrev main_while0b_v20 : Ref sig .tc := ⟨.hbm, 42, rfl⟩
abbrev main_while0b_v21 : Ref sig .tc := ⟨.hbm, 43, rfl⟩
abbrev main_while0b_v22 : Ref sig .tc := ⟨.hbm, 44, rfl⟩
abbrev main_while0b_v23 : Ref sig .tc := ⟨.hbm, 45, rfl⟩
abbrev main_while0b_cst_10 : Ref sig .tc := ⟨.hbm, 46, rfl⟩
abbrev main_while0b_v24 : Ref sig .tc := ⟨.hbm, 47, rfl⟩
abbrev main_while0b_v25 : Ref sig .tc := ⟨.hbm, 48, rfl⟩
abbrev main_while0b_cst_11 : Ref sig .tc := ⟨.hbm, 49, rfl⟩
abbrev main_while0b_v26 : Ref sig .tc := ⟨.hbm, 50, rfl⟩
abbrev main_while0b_v27 : Ref sig .tc := ⟨.hbm, 51, rfl⟩
abbrev main_while0b_v28 : Ref sig .tc := ⟨.hbm, 52, rfl⟩
abbrev main_while0b_v29 : Ref sig .tc := ⟨.hbm, 53, rfl⟩
abbrev main_while0b_v30 : Ref sig .tc := ⟨.hbm, 54, rfl⟩
abbrev main_while0b_v31 : Ref sig .tc := ⟨.hbm, 55, rfl⟩
abbrev main_while0b_v32 : Ref sig .tc := ⟨.hbm, 56, rfl⟩
abbrev main_while0b_cst_12 : Ref sig .tc := ⟨.hbm, 57, rfl⟩
abbrev main_while0b_v33 : Ref sig .tc := ⟨.hbm, 58, rfl⟩
abbrev main_while0b_v34 : Ref sig .tc := ⟨.hbm, 59, rfl⟩
abbrev main_while0b_cst_13 : Ref sig .tc := ⟨.hbm, 60, rfl⟩
abbrev main_while0b_call1_v0 : Ref sig .tc := ⟨.hbm, 61, rfl⟩
abbrev main_while0b_call1_v1 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_cst_14 : Ref sig .tc := ⟨.hbm, 69, rfl⟩
abbrev main_while0b_v41 : Ref sig .tc := ⟨.hbm, 70, rfl⟩
abbrev main_while0b_v42 : Ref sig .tc := ⟨.hbm, 71, rfl⟩
abbrev main_while0b_v43 : Ref sig .tc := ⟨.hbm, 72, rfl⟩
abbrev main_while0b_cst_15 : Ref sig .tc := ⟨.hbm, 73, rfl⟩
abbrev main_while0b_call2_v0 : Ref sig .tc := ⟨.hbm, 74, rfl⟩
abbrev main_while0b_call2_v1 : Ref sig .tc := ⟨.hbm, 75, rfl⟩
abbrev main_while0b_v44 : Ref sig .tc := ⟨.hbm, 76, rfl⟩
abbrev main_while0b_cst_16 : Ref sig .tc := ⟨.hbm, 77, rfl⟩
abbrev main_while0b_v45 : Ref sig .tc := ⟨.hbm, 78, rfl⟩
abbrev main_while0b_v46 : Ref sig .tc := ⟨.hbm, 79, rfl⟩
abbrev main_while0b_v47 : Ref sig .tc := ⟨.hbm, 80, rfl⟩
abbrev main_while0b_cst_17 : Ref sig .tc := ⟨.hbm, 81, rfl⟩
abbrev main_while0b_call3_v0 : Ref sig .tc := ⟨.hbm, 82, rfl⟩
abbrev main_while0b_call3_v1 : Ref sig .tc := ⟨.hbm, 83, rfl⟩
abbrev main_while0b_v48 : Ref sig .tc := ⟨.hbm, 84, rfl⟩
abbrev main_while0b_v49 : Ref sig .tc := ⟨.hbm, 85, rfl⟩
abbrev main_while0b_cst_18 : Ref sig .tc := ⟨.hbm, 86, rfl⟩
abbrev main_while0b_v50 : Ref sig .tc := ⟨.hbm, 87, rfl⟩
abbrev main_while0b_v51 : Ref sig .tc := ⟨.hbm, 88, rfl⟩
abbrev main_while0b_v52 : Ref sig .tc := ⟨.hbm, 89, rfl⟩
abbrev main_while0b_v53 : Ref sig .tc := ⟨.hbm, 90, rfl⟩
abbrev main_while0b_v54 : Ref sig .tc := ⟨.hbm, 91, rfl⟩
abbrev main_while0b_c_19 : Ref sig .tc := ⟨.hbm, 92, rfl⟩
abbrev main_while0b_call4_v0 : Ref sig .tc := ⟨.hbm, 93, rfl⟩
abbrev main_while0b_call4_v1 : Ref sig .tc := ⟨.hbm, 94, rfl⟩
abbrev main_while0b_call4_v2 : Ref sig .tc := ⟨.hbm, 95, rfl⟩
abbrev main_while0b_v55 : Ref sig .tc := ⟨.hbm, 96, rfl⟩
abbrev main_while0b_c_20 : Ref sig .tc := ⟨.hbm, 97, rfl⟩
abbrev main_while0b_v56 : Ref sig .tc := ⟨.hbm, 98, rfl⟩
abbrev main_while0b_cst_21 : Ref sig .tc := ⟨.hbm, 99, rfl⟩
abbrev main_while0b_v57 : Ref sig .tc := ⟨.hbm, 100, rfl⟩
abbrev main_while0b_v58 : Ref sig .tc := ⟨.hbm, 101, rfl⟩
abbrev main_while0b_cst_22 : Ref sig .tc := ⟨.hbm, 102, rfl⟩
abbrev main_while0b_v59 : Ref sig .tc := ⟨.hbm, 103, rfl⟩
abbrev main_while0b_v60 : Ref sig .tc := ⟨.hbm, 104, rfl⟩
abbrev main_while0b_v61 : Ref sig .tc := ⟨.hbm, 105, rfl⟩
abbrev main_while0b_cst_23 : Ref sig .tc := ⟨.hbm, 106, rfl⟩
abbrev main_while0b_call5_v0 : Ref sig .tc := ⟨.hbm, 107, rfl⟩
abbrev main_while0b_call5_v1 : Ref sig .tc := ⟨.hbm, 108, rfl⟩
abbrev main_while0b_v62 : Ref sig .tc := ⟨.hbm, 109, rfl⟩
abbrev main_while0b_v63 : Ref sig .tc := ⟨.hbm, 110, rfl⟩
abbrev main_while0b_v64 : Ref sig .tc := ⟨.hbm, 111, rfl⟩
abbrev main_while0b_v65 : Ref sig .tc := ⟨.hbm, 112, rfl⟩
abbrev main_while0b_v66 : Ref sig .tc := ⟨.hbm, 113, rfl⟩
abbrev main_while0b_c_24 : Ref sig .tc := ⟨.hbm, 114, rfl⟩
abbrev main_while0b_v67 : Ref sig .tc := ⟨.hbm, 115, rfl⟩
abbrev main_while0b_v68 : Ref sig .tc := ⟨.hbm, 116, rfl⟩
abbrev main_while0b_c_25 : Ref sig .tc := ⟨.hbm, 117, rfl⟩
abbrev main_while0b_v69 : Ref sig .tc := ⟨.hbm, 118, rfl⟩
abbrev main_while0b_v70 : Ref sig .tc := ⟨.hbm, 119, rfl⟩
abbrev main_while0b_v71 : Ref sig .tc := ⟨.hbm, 120, rfl⟩
abbrev main_while0b_v72 : Ref sig .tc := ⟨.hbm, 121, rfl⟩
abbrev main_while0b_v73 : Ref sig .tc := ⟨.hbm, 122, rfl⟩
abbrev main_while0b_v74 : Ref sig .tc := ⟨.hbm, 123, rfl⟩
abbrev main_while0b_c_26 : Ref sig .tc := ⟨.hbm, 124, rfl⟩
abbrev main_while0b_v75 : Ref sig .tc := ⟨.hbm, 125, rfl⟩
abbrev main_while0b_v76 : Ref sig .tc := ⟨.hbm, 126, rfl⟩
abbrev main_while0b_c_27 : Ref sig .tc := ⟨.hbm, 127, rfl⟩
abbrev main_while0b_v77 : Ref sig .tc := ⟨.hbm, 128, rfl⟩
abbrev main_while0b_v78 : Ref sig .tc := ⟨.hbm, 129, rfl⟩
abbrev main_while0b_v79 : Ref sig .tc := ⟨.hbm, 130, rfl⟩
abbrev main_while0b_v80 : Ref sig .tc := ⟨.hbm, 131, rfl⟩
abbrev main_while0b_v81 : Ref sig .tc := ⟨.hbm, 132, rfl⟩
abbrev main_while0b_v82 : Ref sig .tc := ⟨.hbm, 133, rfl⟩
abbrev main_while0b_v83 : Ref sig .tc := ⟨.hbm, 134, rfl⟩
abbrev main_while0b_v84 : Ref sig .tc := ⟨.hbm, 135, rfl⟩
abbrev main_while0b_v85 : Ref sig .tc := ⟨.hbm, 136, rfl⟩
abbrev main_while0b_cst_28 : Ref sig .tc := ⟨.hbm, 137, rfl⟩
abbrev main_while0b_v86 : Ref sig .tc := ⟨.hbm, 138, rfl⟩
abbrev main_while0b_v87 : Ref sig .tc := ⟨.hbm, 139, rfl⟩
abbrev main_while0b_cst_29 : Ref sig .tc := ⟨.hbm, 140, rfl⟩
abbrev main_while0b_v88 : Ref sig .tc := ⟨.hbm, 141, rfl⟩
abbrev main_while0b_v89 : Ref sig .tc := ⟨.hbm, 142, rfl⟩
abbrev main_while0b_v90 : Ref sig .tc := ⟨.hbm, 143, rfl⟩
abbrev main_while0b_v91 : Ref sig .tc := ⟨.hbm, 144, rfl⟩
abbrev main_while0b_v92 : Ref sig .tc := ⟨.hbm, 145, rfl⟩
abbrev main_while0b_c_30 : Ref sig .tc := ⟨.hbm, 146, rfl⟩
abbrev main_while0b_v93 : Ref sig .tc := ⟨.hbm, 147, rfl⟩
abbrev main_while0b_v94 : Ref sig .tc := ⟨.hbm, 148, rfl⟩
abbrev main_while0b_c_31 : Ref sig .tc := ⟨.hbm, 149, rfl⟩
abbrev main_while0b_v95 : Ref sig .tc := ⟨.hbm, 150, rfl⟩
abbrev main_while0b_v96 : Ref sig .tc := ⟨.hbm, 151, rfl⟩
abbrev main_while0b_v97 : Ref sig .tc := ⟨.hbm, 152, rfl⟩
abbrev main_while0b_v98 : Ref sig .tc := ⟨.hbm, 153, rfl⟩
abbrev main_while0b_v99 : Ref sig .tc := ⟨.hbm, 154, rfl⟩
abbrev main_while0b_v100 : Ref sig .tc := ⟨.hbm, 155, rfl⟩
abbrev main_while0b_v101 : Ref sig .tc := ⟨.hbm, 156, rfl⟩
abbrev main_while0b_call6_v0 : Ref sig .tc := ⟨.hbm, 157, rfl⟩
abbrev main_while0b_v102 : Ref sig .tc := ⟨.hbm, 158, rfl⟩
abbrev main_while0b_call7_v0 : Ref sig .tc := ⟨.hbm, 159, rfl⟩
abbrev main_while0b_v103 : Ref sig .tc := ⟨.hbm, 160, rfl⟩
abbrev main_while0b_v104 : Ref sig .tc := ⟨.hbm, 161, rfl⟩
abbrev main_while0b_c_32 : Ref sig .tc := ⟨.hbm, 162, rfl⟩
abbrev main_while0b_v105 : Ref sig .tc := ⟨.hbm, 163, rfl⟩
abbrev main_v14 : Ref sig .tc := ⟨.hbm, 164, rfl⟩
abbrev main_v15 : Ref sig .tc := ⟨.hbm, 165, rfl⟩

abbrev nD : Nat := 1
abbrev τ : Topo := Topo.v7x

variable {F : FTy → Type} [FloatOps F]

abbrev main_while0_count : Scf.Loop 32 := ⟨0#32, 100#32, 1#32⟩
-- ==== Proof.MachineBody.lean ====
/-
  The kernel's body with its loop taken as ONE value: `withLoop L` is the body as printed — the loads, the stores, the
  parts in between — where the loop stands replaced by `L`, a function of what the parts before it return. The region of
  the loop loads and stores nothing, so the body is `withLoop L` for some L; a frame asks no more of it.
-/
module

public import proofs.«01_k».proof.Kernel
public import Idealize.ShloMosaic.Lib.Exec.Context

@[expose] public section

noncomputable section

namespace Cert.Proof.Machine

open Cert.Kernel Facts₀ Facts
open Idealize.ShloMosaic Idealize.SL.Sem

variable (F : FTy → Type)

/-- What part 411 of the body returns. -/
abbrev P1 : Type :=
  Σ' (v3 : FVec F S16x128 .f32) (v7 : FVec F S16x128 .f32) (v11 : FVec F S16x128 .f32) (v19 : FVec F S16x128 .f32)
    (v28 : FVec F S16x128 .f32) (v29 : FVec F S16x128 .f32) (v30 : FVec F S16x128 .f32) (v32 : F .f32), F .f32
/-- What part 412 of the body returns. -/
abbrev P2 : Type :=
  Σ' (v36 : F .f32) (v39 : F .f32) (v40 : Elt F .f32) (v42 : F .f32) (v44 : F .f32) (v46 : F .f32) (v49 : F .f32) (v50
    : Elt F .f32) (v52 : F .f32) (v54 : F .f32) (v56 : F .f32) (v59 : F .f32), Elt F .f32
/-- What part 413 of the body returns. -/
abbrev P3 : Type :=
  Σ' (v62 : F .f32) (v64 : F .f32) (v66 : F .f32) (v69 : F .f32) (v70 : Elt F .f32) (v72 : F .f32) (v74 : F .f32) (v76
    : F .f32) (v79 : F .f32) (v80 : Elt F .f32) (v82 : F .f32) (v84 : F .f32), F .f32
/-- What part 414 of the body returns. -/
abbrev P4 : Type :=
  Σ' (v89 : F .f32) (v90 : Elt F .f32) (v92 : F .f32) (v94 : F .f32) (v96 : F .f32) (v99 : F .f32) (v100 : Elt F .f32)
    (v102 : F .f32) (v104 : F .f32) (v106 : F .f32) (v109 : F .f32) (v110 : Elt F .f32), F .f32
/-- What part 415 of the body returns. -/
abbrev P5 : Type :=
  Σ' (v114 : F .f32) (v116 : F .f32) (v119 : F .f32) (v120 : Elt F .f32) (v122 : F .f32) (v124 : F .f32) (v126 : F
    .f32) (v129 : F .f32) (v130 : Elt F .f32) (v132 : F .f32) (v134 : F .f32) (v136 : F .f32) (v138 : F .f32), F .f32
/-- What part 416 of the body returns. -/
abbrev P6 : Type :=
  Σ' (v139 : F .f32) (v140 : Elt F .f32) (v142 : F .f32) (v144 : F .f32) (v146 : F .f32) (v149 : F .f32) (v150 : Elt F
    .f32) (v152 : F .f32) (v154 : F .f32) (v156 : F .f32) (v159 : F .f32) (v160 : Elt F .f32) (v162 : F .f32), F .f32
/-- What part 417 of the body returns. -/
abbrev P7 : Type :=
  Σ' (v166 : F .f32) (v169 : F .f32) (v170 : Elt F .f32) (v172 : F .f32) (v174 : F .f32) (v176 : F .f32) (v179 : F
    .f32) (v180 : Elt F .f32) (v182 : F .f32) (v184 : F .f32) (v186 : F .f32) (v189 : F .f32) (v190 : Elt F .f32)
    (cst_209 : F .f32), BitVec 32
/-- What the loop carries. -/
abbrev Carry : Type :=
  FVec F S16x128 .f32 × FVec F S16x128 .f32 × FVec F S16x128 .f32 × FVec F S16x128 .f32 × FVec F S16x128 .f32 × FVec F
    S16x128 .f32 × FVec F S16x128 .f32
variable {F} [FloatOps F] [Facts]

/-- The body as printed, its loop replaced by the value `L` of what the parts before it return. -/
def withLoop (L : P1 F → P2 F → P3 F → P4 F → P5 F → P6 F → P7 F → Carry F) (i : grid0.Coords) (arg1 : Memref sig .tc
    .smem S16x3 .f32) (harg1 : arg1.IsWhole) (arg2 : Memref sig .tc .smem S16 .f32) (harg2 : arg2.IsWhole) (arg3 :
    Memref sig .tc .smem S16 .f32) (harg3 : arg3.IsWhole) (arg4 : Memref sig .tc .vmem S16x128 .f32) (harg4 :
    arg4.IsWhole) (arg5 : Memref sig .tc .vmem S16x128 .f32) (harg5 : arg5.IsWhole) (arg6 : Memref sig .tc .vmem S16x128
    .f32) (harg6 : arg6.IsWhole) (arg7 : Memref sig .tc .vmem S16x128 .f32) (harg7 : arg7.IsWhole) (arg8 : Memref sig
    .tc .vmem S16x128 .f32) (harg8 : arg8.IsWhole) (arg9 : Memref sig .tc .vmem S16x128 .f32) (harg9 : arg9.IsWhole)
    (arg10 : Memref sig .tc .vmem S16x128 .f32) (harg10 : arg10.IsWhole) (arg11 : Memref sig .tc .vmem S16x128 .f32)
    (harg11 : arg11.IsWhole) (arg12 : Memref sig .tc .vmem S16x128 .f32) (harg12 : arg12.IsWhole) (arg13 : Memref sig
    .tc .vmem S16x128 .f32) (harg13 : arg13.IsWhole) (arg14 : Memref sig .tc .vmem S16x128 .f32) (harg14 :
    arg14.IsWhole) (arg15 : Memref sig .tc .vmem S16x128 .f32) (harg15 : arg15.IsWhole) (arg16 : Memref sig .tc .vmem
    S16x128 .f32) (harg16 : arg16.IsWhole) (arg17 : Memref sig .tc .vmem S16x128 .f32) (harg17 : arg17.IsWhole) :
    Prog (TpuEff nD τ sig (Elt F) Λ₀ .tc) PUnit := do
  let x1 ← k0_part411 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let x2 ← k0_part412 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let x3 ← k0_part413 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let x4 ← k0_part414 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let x5 ← k0_part415 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let x6 ← k0_part416 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
    x5.2.2.2.2.2.2.2.2.2.2.2.2.1 x5.2.2.2.2.2.2.2.2.2.2.2.2.2
  let x7 ← k0_part417 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let _ ← Prog.lift (.load arg11 (Rect.unit (s := S16x128) ![0, 0] S16x128.size inb_S16x128_S16x128_0_0).toLoadRect
    (View.loadsAt_vmem h_S16x128))
  Prog.lift (.store arg11 (Rect.unit (s := S16x128) ![0, 0] S16x128.size inb_S16x128_S16x128_0_0) ((L x1 x2 x3 x4 x5
    x6 x7).1) Finset.univ (View.stores_vmem_bits_univ h_S16x128 rfl) (.inl rfl))
  let _ ← Prog.lift (.load arg12 (Rect.unit (s := S16x128) ![0, 0] S16x128.size inb_S16x128_S16x128_0_0).toLoadRect
    (View.loadsAt_vmem h_S16x128))
  Prog.lift (.store arg12 (Rect.unit (s := S16x128) ![0, 0] S16x128.size inb_S16x128_S16x128_0_0) ((L x1 x2 x3 x4 x5
    x6 x7).2.1) Finset.univ (View.stores_vmem_bits_univ h_S16x128 rfl) (.inl rfl))
  let _ ← Prog.lift (.load arg13 (Rect.unit (s := S16x128) ![0, 0] S16x128.size inb_S16x128_S16x128_0_0).toLoadRect
    (View.loadsAt_vmem h_S16x128))
  Prog.lift (.store arg13 (Rect.unit (s := S16x128) ![0, 0] S16x128.size inb_S16x128_S16x128_0_0) ((L x1 x2 x3 x4 x5
    x6 x7).2.2.1) Finset.univ (View.stores_vmem_bits_univ h_S16x128 rfl) (.inl rfl))
  let _ ← Prog.lift (.load arg14 (Rect.unit (s := S16x128) ![0, 0] S16x128.size inb_S16x128_S16x128_0_0).toLoadRect
    (View.loadsAt_vmem h_S16x128))
  Prog.lift (.store arg14 (Rect.unit (s := S16x128) ![0, 0] S16x128.size inb_S16x128_S16x128_0_0) ((L x1 x2 x3 x4 x5
    x6 x7).2.2.2.1) Finset.univ (View.stores_vmem_bits_univ h_S16x128 rfl) (.inl rfl))
  let _ ← Prog.lift (.load arg15 (Rect.unit (s := S16x128) ![0, 0] S16x128.size inb_S16x128_S16x128_0_0).toLoadRect
    (View.loadsAt_vmem h_S16x128))
  Prog.lift (.store arg15 (Rect.unit (s := S16x128) ![0, 0] S16x128.size inb_S16x128_S16x128_0_0) ((L x1 x2 x3 x4 x5
    x6 x7).2.2.2.2.1) Finset.univ (View.stores_vmem_bits_univ h_S16x128 rfl) (.inl rfl))
  let _ ← Prog.lift (.load arg16 (Rect.unit (s := S16x128) ![0, 0] S16x128.size inb_S16x128_S16x128_0_0).toLoadRect
    (View.loadsAt_vmem h_S16x128))
  Prog.lift (.store arg16 (Rect.unit (s := S16x128) ![0, 0] S16x128.size inb_S16x128_S16x128_0_0) ((L x1 x2 x3 x4 x5
    x6 x7).2.2.2.2.2.1) Finset.univ (View.stores_vmem_bits_univ h_S16x128 rfl) (.inl rfl))
  let _ ← Prog.lift (.load arg17 (Rect.unit (s := S16x128) ![0, 0] S16x128.size inb_S16x128_S16x128_0_0).toLoadRect
    (View.loadsAt_vmem h_S16x128))
  Prog.lift (.store arg17 (Rect.unit (s := S16x128) ![0, 0] S16x128.size inb_S16x128_S16x128_0_0) ((L x1 x2 x3 x4 x5
    x6 x7).2.2.2.2.2.2) Finset.univ (View.stores_vmem_bits_univ h_S16x128 rfl) (.inl rfl))
  pure ⟨⟩

/-- A program that loads and stores nothing: it returns a value. -/
def Returns {E : Type → Type} {α : Type} (p : Prog E α) : Prop := ∃ r, p = .ret r

/-- Whether a program returns a value at once. -/
def isRet {E : Type → Type} {α : Type} : Prog E α → Bool
  | .ret _ => true
  | .op _ _ => false

/-- A program that returns a value at once returns a value. -/
theorem Returns.of {E : Type → Type} {α : Type} {p : Prog E α} (h : isRet p = true) : Returns p := by
  cases p with
  | ret a => exact ⟨a, rfl⟩
  | op _ _ => cases h

/-- Two such programs one after the other are such a program. -/
theorem Returns.bind {E : Type → Type} {α β : Type} {p : Prog E α} {f : α → Prog E β} (hp : Returns p)
    (hf : ∀ a, Returns (f a)) : Returns (p >>= f) := by
  obtain ⟨a, rfl⟩ := hp
  exact hf a

/-- A loop of regions that return values returns a value. -/
theorem Returns.loop {E : Type → Type} {α : Type} {w : Nat} (l : Scf.Loop w) (hok : l.OK) (init : α)
    (body : Fin l.trips → α → Prog E α) (h : ∀ k acc, Returns (body k acc)) :
    Returns (Scf.Loop.for l hok init body) := by
  choose g hg using h
  exact ⟨_, Scf.for_pure l.lb l.ub l.st hok init body g hg⟩

/-- After seven programs, a program that returns a value is that value, a function of the seven results. -/
theorem bind_value {E : Type → Type} {α₁ α₂ α₃ α₄ α₅ α₆ α₇ β γ : Type} {p₁ : Prog E α₁} {p₂ : Prog E α₂}
    {p₃ : Prog E α₃} {p₄ : Prog E α₄} {p₅ : Prog E α₅} {p₆ : α₅ → Prog E α₆} {p₇ : Prog E α₇}
    {l : α₁ → α₂ → α₃ → α₄ → α₅ → α₆ → α₇ → Prog E β} {k : β → Prog E γ}
    (h : ∀ x₁ x₂ x₃ x₄ x₅ x₆ x₇, Returns (l x₁ x₂ x₃ x₄ x₅ x₆ x₇)) :
    ∃ L : α₁ → α₂ → α₃ → α₄ → α₅ → α₆ → α₇ → β,
      (p₁ >>= fun x₁ => p₂ >>= fun x₂ => p₃ >>= fun x₃ => p₄ >>= fun x₄ => p₅ >>= fun x₅ => p₆ x₅ >>= fun x₆ =>
        p₇ >>= fun x₇ => l x₁ x₂ x₃ x₄ x₅ x₆ x₇ >>= k) =
      (p₁ >>= fun x₁ => p₂ >>= fun x₂ => p₃ >>= fun x₃ => p₄ >>= fun x₄ => p₅ >>= fun x₅ => p₆ x₅ >>= fun x₆ =>
        p₇ >>= fun x₇ => k (L x₁ x₂ x₃ x₄ x₅ x₆ x₇)) := by
  choose L hL using h
  refine ⟨L, ?_⟩
  simp only [hL]
  rfl

set_option maxRecDepth 100000 in
set_option maxHeartbeats 0 in
/-- The body is the printed one with some value for its loop. -/
theorem body_eq (i : grid0.Coords) (arg1 : Memref sig .tc .smem S16x3 .f32) (harg1 : arg1.IsWhole) (arg2 : Memref sig
  .tc .smem S16 .f32) (harg2 : arg2.IsWhole) (arg3 : Memref sig .tc .smem S16 .f32) (harg3 : arg3.IsWhole) (arg4 :
  Memref sig .tc .vmem S16x128 .f32) (harg4 : arg4.IsWhole) (arg5 : Memref sig .tc .vmem S16x128 .f32) (harg5 :
  arg5.IsWhole) (arg6 : Memref sig .tc .vmem S16x128 .f32) (harg6 : arg6.IsWhole) (arg7 : Memref sig .tc .vmem S16x128
  .f32) (harg7 : arg7.IsWhole) (arg8 : Memref sig .tc .vmem S16x128 .f32) (harg8 : arg8.IsWhole) (arg9 : Memref sig
  .tc .vmem S16x128 .f32) (harg9 : arg9.IsWhole) (arg10 : Memref sig .tc .vmem S16x128 .f32) (harg10 : arg10.IsWhole)
  (arg11 : Memref sig .tc .vmem S16x128 .f32) (harg11 : arg11.IsWhole) (arg12 : Memref sig .tc .vmem S16x128 .f32)
  (harg12 : arg12.IsWhole) (arg13 : Memref sig .tc .vmem S16x128 .f32) (harg13 : arg13.IsWhole) (arg14 : Memref sig
  .tc .vmem S16x128 .f32) (harg14 : arg14.IsWhole) (arg15 : Memref sig .tc .vmem S16x128 .f32) (harg15 :
  arg15.IsWhole) (arg16 : Memref sig .tc .vmem S16x128 .f32) (harg16 : arg16.IsWhole) (arg17 : Memref sig .tc .vmem
  S16x128 .f32) (harg17 : arg17.IsWhole) :
    ∃ L : P1 F → P2 F → P3 F → P4 F → P5 F → P6 F → P7 F → Carry F, cc0__body (F := F) i arg1 harg1 arg2 harg2 arg3
      harg3 arg4 harg4 arg5 harg5 arg6 harg6 arg7 harg7 arg8 harg8 arg9 harg9 arg10 harg10 arg11 harg11 arg12 harg12
      arg13 harg13 arg14 harg14 arg15 harg15 arg16 harg16 arg17 harg17 = withLoop (F := F) L i arg1 harg1 arg2 harg2
      arg3 harg3 arg4 harg4 arg5 harg5 arg6 harg6 arg7 harg7 arg8 harg8 arg9 harg9 arg10 harg10 arg11 harg11 arg12
      harg12 arg13 harg13 arg14 harg14 arg15 harg15 arg16 harg16 arg17 harg17 := by
  unfold cc0__body withLoop
  refine bind_value fun x1 x2 x3 x4 x5 x6 x7 => Returns.loop _ _ _ _ fun k acc => ?_
  refine Returns.bind (.of ?_) fun r1 => Returns.bind (.of ?_) fun r2 => Returns.bind (.of ?_) fun r3 =>
    Returns.bind (.of ?_) fun r4 => Returns.bind (.of ?_) fun r5 => Returns.bind (.of ?_) fun r6 =>
    Returns.bind (.of ?_) fun r7 => .of rfl
  · unfold k0_part404; rfl
  · unfold k0_part405; rfl
  · unfold k0_part406; rfl
  · unfold k0_part407; rfl
  · unfold k0_part408; rfl
  · unfold k0_part409; rfl
  · unfold k0_part410; rfl

end Cert.Proof.Machine

end
-- ==== Proof.Bounce.lean ====
/-
  One bounce of a block of 16×128 rays against 16 spheres, operation by operation: every vector the computation makes
  has a name here, and for each name an equation that recognises it (`op … = name`). The names are over any float
  values; what they compute is said elsewhere.
-/
module

public import Idealize.ShloMosaic.PureOps
public import Idealize.ShloMosaic.Lib.Scf

@[expose] public section

noncomputable section

namespace Cert.Bounce

open Idealize.ShloMosaic

variable {F : FTy → Type} [FloatOps F]

/-- A block of rays: 16 rows of 128. -/
abbrev Blk : Shape := ⟨2, ![16, 128]⟩

/-- A float vector with one entry per ray of the block. -/
abbrev V (F : FTy → Type) : Type := FVec F Blk .f32

/-- The sixteen spheres, already at scene scale: centres, radii, reflectivities. -/
structure Scene (F : FTy → Type) where
  cx : Fin 16 → F .f32
  cy : Fin 16 → F .f32
  cz : Fin 16 → F .f32
  r : Fin 16 → F .f32
  refl : Fin 16 → F .f32

/-- The rays of a block: positions, directions, intensities. -/
structure Rays (F : FTy → Type) where
  px : V F
  py : V F
  pz : V F
  dx : V F
  dy : V F
  dz : V F
  it : V F

/-- The nearest hit so far: its distance and the sphere it is on. -/
structure Best (F : FTy → Type) where
  t : V F
  cx : V F
  cy : V F
  cz : V F
  r : V F
  refl : V F

/-! ## Constants -/

def infS : F .f32 := Scalar.ofBits .f32 0x7F800000#32
def infV : V F := broadcast Blk (infS : F .f32)
def zeroV : V F := broadcast Blk (Scalar.ofBits .f32 0x00000000#32 : F .f32)
def oneV : V F := broadcast Blk (Scalar.ofBits .f32 0x3F800000#32 : F .f32)
def twoV : V F := broadcast Blk (Scalar.ofBits .f32 0x40000000#32 : F .f32)
def epsV : V F := broadcast Blk (Scalar.ofBits .f32 0x38D1B717#32 : F .f32)

variable (σ : Scene F) (X : Rays F) (s : Fin 16)

/-! ## One sphere -/

def bcx : V F := broadcast Blk (σ.cx s)
def bcy : V F := broadcast Blk (σ.cy s)
def bcz : V F := broadcast Blk (σ.cz s)
def br : V F := broadcast Blk (σ.r s)
def brefl : V F := broadcast Blk (σ.refl s)
def rr : F .f32 := Scalar.mulf (σ.r s) (σ.r s)
def brr : V F := broadcast Blk (rr σ s)
def ox : V F := subf X.px (bcx σ s)
def oy : V F := subf X.py (bcy σ s)
def oz : V F := subf X.pz (bcz σ s)
def bx : V F := mulf (ox σ X s) X.dx
def by' : V F := mulf (oy σ X s) X.dy
def bxy : V F := addf (bx σ X s) (by' σ X s)
def bz : V F := mulf (oz σ X s) X.dz
def b : V F := addf (bxy σ X s) (bz σ X s)
def ccx : V F := mulf (ox σ X s) (ox σ X s)
def ccy : V F := mulf (oy σ X s) (oy σ X s)
def ccxy : V F := addf (ccx σ X s) (ccy σ X s)
def ccz : V F := mulf (oz σ X s) (oz σ X s)
def cc : V F := addf (ccxy σ X s) (ccz σ X s)
def c : V F := subf (cc σ X s) (brr σ s)
def bb : V F := mulf (b σ X s) (b σ X s)
def disc : V F := subf (bb σ X s) (c σ X s)
def valid : IVec Blk 1 := cmpf .ogt (disc σ X s) zeroV
def sq : V F := sqrt (disc σ X s)
def nb : V F := subf zeroV (b σ X s)
def t0 : V F := subf (nb σ X s) (sq σ X s)
def t1 : V F := addf (nb σ X s) (sq σ X s)
def far0 : IVec Blk 1 := cmpf .ogt (t0 σ X s) epsV
def ok0 : IVec Blk 1 := andi (valid σ X s) (far0 σ X s)
def far1 : IVec Blk 1 := cmpf .ogt (t1 σ X s) epsV
def ok1 : IVec Blk 1 := andi (valid σ X s) (far1 σ X s)
def t1i : V F := select (ok1 σ X s) (t1 σ X s) infV
/-- The distance to sphere `s`, `inf` where the ray misses it. -/
def t : V F := select (ok0 σ X s) (t0 σ X s) (t1i σ X s)

/-! ## The running minimum -/

/-- No hit yet. -/
def init : Best F := ⟨infV, zeroV, zeroV, zeroV, oneV, zeroV⟩

variable (B A : Best F)

def take : IVec Blk 1 := cmpf .olt (t σ X s) B.t
/-- The running minimum after sphere `s`. -/
def upd : Best F :=
  ⟨select (take σ X s B) (t σ X s) B.t, select (take σ X s B) (bcx σ s) B.cx, select (take σ X s B) (bcy σ s) B.cy,
    select (take σ X s B) (bcz σ s) B.cz, select (take σ X s B) (br σ s) B.r, select (take σ X s B) (brefl σ s) B.refl⟩

def tk : IVec Blk 1 := cmpf .olt B.t A.t
/-- The nearer of two hits, the first on a tie. -/
def merge : Best F :=
  ⟨select (tk B A) B.t A.t, select (tk B A) B.cx A.cx, select (tk B A) B.cy A.cy,
    select (tk B A) B.cz A.cz, select (tk B A) B.r A.r, select (tk B A) B.refl A.refl⟩

/-- The nearest hit among spheres 0 … 7. -/
def lo : Best F := upd σ X 7 (upd σ X 6 (upd σ X 5 (upd σ X 4 (upd σ X 3 (upd σ X 2 (upd σ X 1 (upd σ X 0 init)))))))
/-- The nearest hit among spheres 8 … 15. -/
def hi : Best F := upd σ X 15 (upd σ X 14 (upd σ X 13 (upd σ X 12 (upd σ X 11 (upd σ X 10 (upd σ X 9 (upd σ X 8 init)))))))
/-- The nearest hit. -/
def best : Best F := merge (hi σ X) (lo σ X)

/-! ## The reflection -/

def hit : IVec Blk 1 := cmpf .olt (best σ X).t infV
def lit : IVec Blk 1 := cmpf .ogt X.it zeroV
def active : IVec Blk 1 := andi (hit σ X) (lit X)
def tsafe : V F := select (hit σ X) (best σ X).t zeroV
def tdx : V F := mulf (tsafe σ X) X.dx
def tdy : V F := mulf (tsafe σ X) X.dy
def tdz : V F := mulf (tsafe σ X) X.dz
def hx : V F := addf X.px (tdx σ X)
def hy : V F := addf X.py (tdy σ X)
def hz : V F := addf X.pz (tdz σ X)
def mx : V F := subf (hx σ X) (best σ X).cx
def my : V F := subf (hy σ X) (best σ X).cy
def mz : V F := subf (hz σ X) (best σ X).cz
def nx : V F := divf (mx σ X) (best σ X).r
def ny : V F := divf (my σ X) (best σ X).r
def nz : V F := divf (mz σ X) (best σ X).r
def dnx : V F := mulf X.dx (nx σ X)
def dnz : V F := mulf X.dz (nz σ X)
def dnxz : V F := addf (dnx σ X) (dnz σ X)
def dny : V F := mulf X.dy (ny σ X)
def dn : V F := addf (dnxz σ X) (dny σ X)
def k2 : V F := mulf twoV (dn σ X)
def kx : V F := mulf (k2 σ X) (nx σ X)
def ky : V F := mulf (k2 σ X) (ny σ X)
def kz : V F := mulf (k2 σ X) (nz σ X)
def ex : V F := subf X.dx (kx σ X)
def ey : V F := subf X.dy (ky σ X)
def ez : V F := subf X.dz (kz σ X)
def ni : V F := mulf X.it (best σ X).refl

/-- The rays after one bounce. -/
def bounce : Rays F :=
  ⟨select (active σ X) (hx σ X) X.px, select (active σ X) (hy σ X) X.py, select (active σ X) (hz σ X) X.pz,
    select (active σ X) (ex σ X) X.dx, select (active σ X) (ey σ X) X.dy, select (active σ X) (ez σ X) X.dz,
    select (active σ X) (ni σ X) X.it⟩

/-! ## The equations that recognise the names -/

theorem f_infS : (Scalar.ofBits .f32 0x7F800000#32 : F .f32) = infS := (rfl)
theorem f_infV : broadcast Blk (infS : F .f32) = infV := (rfl)
theorem f_zeroV : broadcast Blk (Scalar.ofBits .f32 0x00000000#32 : F .f32) = zeroV := (rfl)
theorem f_oneV : broadcast Blk (Scalar.ofBits .f32 0x3F800000#32 : F .f32) = oneV := (rfl)
theorem f_twoV : broadcast Blk (Scalar.ofBits .f32 0x40000000#32 : F .f32) = twoV := (rfl)
theorem f_epsV : broadcast Blk (Scalar.ofBits .f32 0x38D1B717#32 : F .f32) = epsV := (rfl)
theorem f_bcx : broadcast Blk (σ.cx s) = bcx σ s := (rfl)
theorem f_bcy : broadcast Blk (σ.cy s) = bcy σ s := (rfl)
theorem f_bcz : broadcast Blk (σ.cz s) = bcz σ s := (rfl)
theorem f_br : broadcast Blk (σ.r s) = br σ s := (rfl)
theorem f_brefl : broadcast Blk (σ.refl s) = brefl σ s := (rfl)
theorem f_rr : Scalar.mulf (σ.r s) (σ.r s) = rr σ s := (rfl)
theorem f_brr : broadcast Blk (rr σ s) = brr σ s := (rfl)
theorem f_ox : subf X.px (bcx σ s) = ox σ X s := (rfl)
theorem f_oy : subf X.py (bcy σ s) = oy σ X s := (rfl)
theorem f_oz : subf X.pz (bcz σ s) = oz σ X s := (rfl)
theorem f_bx : mulf (ox σ X s) X.dx = bx σ X s := (rfl)
theorem f_by : mulf (oy σ X s) X.dy = by' σ X s := (rfl)
theorem f_bxy : addf (bx σ X s) (by' σ X s) = bxy σ X s := (rfl)
theorem f_bz : mulf (oz σ X s) X.dz = bz σ X s := (rfl)
theorem f_b : addf (bxy σ X s) (bz σ X s) = b σ X s := (rfl)
theorem f_ccx : mulf (ox σ X s) (ox σ X s) = ccx σ X s := (rfl)
theorem f_ccy : mulf (oy σ X s) (oy σ X s) = ccy σ X s := (rfl)
theorem f_ccxy : addf (ccx σ X s) (ccy σ X s) = ccxy σ X s := (rfl)
theorem f_ccz : mulf (oz σ X s) (oz σ X s) = ccz σ X s := (rfl)
theorem f_cc : addf (ccxy σ X s) (ccz σ X s) = cc σ X s := (rfl)
theorem f_c : subf (cc σ X s) (brr σ s) = c σ X s := (rfl)
theorem f_bb : mulf (b σ X s) (b σ X s) = bb σ X s := (rfl)
theorem f_disc : subf (bb σ X s) (c σ X s) = disc σ X s := (rfl)
theorem f_valid : cmpf .ogt (disc σ X s) zeroV = valid σ X s := (rfl)
theorem f_sq : sqrt (disc σ X s) = sq σ X s := (rfl)
theorem f_nb : subf zeroV (b σ X s) = nb σ X s := (rfl)
theorem f_t0 : subf (nb σ X s) (sq σ X s) = t0 σ X s := (rfl)
theorem f_t1 : addf (nb σ X s) (sq σ X s) = t1 σ X s := (rfl)
theorem f_far0 : cmpf .ogt (t0 σ X s) epsV = far0 σ X s := (rfl)
theorem f_ok0 : andi (valid σ X s) (far0 σ X s) = ok0 σ X s := (rfl)
theorem f_far1 : cmpf .ogt (t1 σ X s) epsV = far1 σ X s := (rfl)
theorem f_ok1 : andi (valid σ X s) (far1 σ X s) = ok1 σ X s := (rfl)
theorem f_t1i : select (ok1 σ X s) (t1 σ X s) infV = t1i σ X s := (rfl)
theorem f_t : select (ok0 σ X s) (t0 σ X s) (t1i σ X s) = t σ X s := (rfl)

theorem f_take0 : cmpf .olt (t σ X s) infV = take σ X s init := (rfl)
theorem f_upd0_t : select (take σ X s init) (t σ X s) infV = (upd σ X s init).t := (rfl)
theorem f_upd0_cx : select (take σ X s init) (bcx σ s) zeroV = (upd σ X s init).cx := (rfl)
theorem f_upd0_cy : select (take σ X s init) (bcy σ s) zeroV = (upd σ X s init).cy := (rfl)
theorem f_upd0_cz : select (take σ X s init) (bcz σ s) zeroV = (upd σ X s init).cz := (rfl)
theorem f_upd0_r : select (take σ X s init) (br σ s) oneV = (upd σ X s init).r := (rfl)
theorem f_upd0_refl : select (take σ X s init) (brefl σ s) zeroV = (upd σ X s init).refl := (rfl)
theorem f_take : cmpf .olt (t σ X s) B.t = take σ X s B := (rfl)
theorem f_upd_t : select (take σ X s B) (t σ X s) B.t = (upd σ X s B).t := (rfl)
theorem f_upd_cx : select (take σ X s B) (bcx σ s) B.cx = (upd σ X s B).cx := (rfl)
theorem f_upd_cy : select (take σ X s B) (bcy σ s) B.cy = (upd σ X s B).cy := (rfl)
theorem f_upd_cz : select (take σ X s B) (bcz σ s) B.cz = (upd σ X s B).cz := (rfl)
theorem f_upd_r : select (take σ X s B) (br σ s) B.r = (upd σ X s B).r := (rfl)
theorem f_upd_refl : select (take σ X s B) (brefl σ s) B.refl = (upd σ X s B).refl := (rfl)
theorem f_lo : upd σ X 7 (upd σ X 6 (upd σ X 5 (upd σ X 4 (upd σ X 3 (upd σ X 2 (upd σ X 1 (upd σ X 0 init))))))) = lo σ X := (rfl)
theorem f_hi : upd σ X 15 (upd σ X 14 (upd σ X 13 (upd σ X 12 (upd σ X 11 (upd σ X 10 (upd σ X 9 (upd σ X 8 init))))))) = hi σ X := (rfl)
theorem f_tk : cmpf .olt (hi σ X).t (lo σ X).t = tk (hi σ X) (lo σ X) := (rfl)
theorem f_best_t : select (tk (hi σ X) (lo σ X)) (hi σ X).t (lo σ X).t = (best σ X).t := (rfl)
theorem f_best_cx : select (tk (hi σ X) (lo σ X)) (hi σ X).cx (lo σ X).cx = (best σ X).cx := (rfl)
theorem f_best_cy : select (tk (hi σ X) (lo σ X)) (hi σ X).cy (lo σ X).cy = (best σ X).cy := (rfl)
theorem f_best_cz : select (tk (hi σ X) (lo σ X)) (hi σ X).cz (lo σ X).cz = (best σ X).cz := (rfl)
theorem f_best_r : select (tk (hi σ X) (lo σ X)) (hi σ X).r (lo σ X).r = (best σ X).r := (rfl)
theorem f_best_refl : select (tk (hi σ X) (lo σ X)) (hi σ X).refl (lo σ X).refl = (best σ X).refl := (rfl)

theorem f_hit : cmpf .olt (best σ X).t infV = hit σ X := (rfl)
theorem f_lit : cmpf .ogt X.it zeroV = lit X := (rfl)
theorem f_active : andi (hit σ X) (lit X) = active σ X := (rfl)
theorem f_tsafe : select (hit σ X) (best σ X).t zeroV = tsafe σ X := (rfl)
theorem f_tdx : mulf (tsafe σ X) X.dx = tdx σ X := (rfl)
theorem f_tdy : mulf (tsafe σ X) X.dy = tdy σ X := (rfl)
theorem f_tdz : mulf (tsafe σ X) X.dz = tdz σ X := (rfl)
theorem f_hx : addf X.px (tdx σ X) = hx σ X := (rfl)
theorem f_hy : addf X.py (tdy σ X) = hy σ X := (rfl)
theorem f_hz : addf X.pz (tdz σ X) = hz σ X := (rfl)
theorem f_mx : subf (hx σ X) (best σ X).cx = mx σ X := (rfl)
theorem f_my : subf (hy σ X) (best σ X).cy = my σ X := (rfl)
theorem f_mz : subf (hz σ X) (best σ X).cz = mz σ X := (rfl)
theorem f_nx : divf (mx σ X) (best σ X).r = nx σ X := (rfl)
theorem f_ny : divf (my σ X) (best σ X).r = ny σ X := (rfl)
theorem f_nz : divf (mz σ X) (best σ X).r = nz σ X := (rfl)
theorem f_dnx : mulf X.dx (nx σ X) = dnx σ X := (rfl)
theorem f_dnz : mulf X.dz (nz σ X) = dnz σ X := (rfl)
theorem f_dnxz : addf (dnx σ X) (dnz σ X) = dnxz σ X := (rfl)
theorem f_dny : mulf X.dy (ny σ X) = dny σ X := (rfl)
theorem f_dn : addf (dnxz σ X) (dny σ X) = dn σ X := (rfl)
theorem f_k2 : mulf twoV (dn σ X) = k2 σ X := (rfl)
theorem f_kx : mulf (k2 σ X) (nx σ X) = kx σ X := (rfl)
theorem f_ky : mulf (k2 σ X) (ny σ X) = ky σ X := (rfl)
theorem f_kz : mulf (k2 σ X) (nz σ X) = kz σ X := (rfl)
theorem f_ex : subf X.dx (kx σ X) = ex σ X := (rfl)
theorem f_ey : subf X.dy (ky σ X) = ey σ X := (rfl)
theorem f_ez : subf X.dz (kz σ X) = ez σ X := (rfl)
theorem f_ni : mulf X.it (best σ X).refl = ni σ X := (rfl)
theorem f_px : select (active σ X) (hx σ X) X.px = (bounce σ X).px := (rfl)
theorem f_py : select (active σ X) (hy σ X) X.py = (bounce σ X).py := (rfl)
theorem f_pz : select (active σ X) (hz σ X) X.pz = (bounce σ X).pz := (rfl)
theorem f_dx : select (active σ X) (ex σ X) X.dx = (bounce σ X).dx := (rfl)
theorem f_dy : select (active σ X) (ey σ X) X.dy = (bounce σ X).dy := (rfl)
theorem f_dz : select (active σ X) (ez σ X) X.dz = (bounce σ X).dz := (rfl)
theorem f_it : select (active σ X) (ni σ X) X.it = (bounce σ X).it := (rfl)

end Cert.Bounce

end
-- ==== Proof.Trip.lean ====
/-
  The region of the kernel's loop is twenty-five bounces, printed as seven parts of pure operations. Each part is shown to
  return named vectors of Proof/Bounce.lean: a part takes the rays `X` and what the part before left half done, and
  returns the rays `Y` a few bounces on with what it leaves half done itself.
-/
module

public import proofs.«01_k».proof.KernelIdeal
public import proofs.«01_k».proof.Proof.Bounce

@[expose] public section

noncomputable section

namespace Cert.Proof.Ideal

open Cert.KernelIdeal Cert.Bounce
open Idealize.ShloMosaic Idealize.SL.Sem

variable {F : FTy → Type} [FloatOps F] [Facts]

/-- A returned value is handed to the continuation. -/
theorem pure_bind_eq {E : Type → Type} {α β : Type} (a : α) (f : α → Prog E β) : (pure a >>= f : Prog E β) = f a := (rfl)

variable (i : grid0.Coords) (arg1 : Memref sig .tc .smem S16x3 .f32) (harg1 : arg1.IsWhole) (arg2 : Memref sig .tc .smem S16 .f32) (harg2 : arg2.IsWhole) (arg3 : Memref sig .tc .smem S16 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole)
  (c0_i32 c1_i32 : BitVec 32) (k0_t1 : Fin k0_t1_loop.trips) (σ : Scene F) (X : Rays F)

set_option maxRecDepth 100000 in
set_option maxHeartbeats 0 in
/-- Part 1 of the region: three bounces and a piece of a fourth. -/
theorem part404 (Y : Rays F) (hY : bounce σ (bounce σ (bounce σ X)) = Y) :
    k0_part404 i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16
      harg16 arg17 harg17 (σ.cx 0) (σ.cy 0) (σ.cz 0) (σ.r 0) (σ.refl 0) (σ.cx 1) (σ.cy 1) (σ.cz 1)
      (σ.r 1) (σ.refl 1) (σ.cx 2) (σ.cy 2) (σ.cz 2) (σ.r 2) (σ.refl 2) (σ.cx 3) (σ.cy 3) (σ.cz 3) (σ.r 3)
      (σ.refl 3) (σ.cx 4) (σ.cy 4) (σ.cz 4) (σ.r 4) (σ.refl 4) (σ.cx 5) (σ.cy 5) (σ.cz 5) (σ.r 5)
      (σ.refl 5) (σ.cx 6) (σ.cy 6) (σ.cz 6) (σ.r 6) (σ.refl 6) (σ.cx 7) (σ.cy 7) (σ.cz 7) (σ.r 7)
      (σ.refl 7) (σ.cx 8) (σ.cy 8) (σ.cz 8) (σ.r 8) (σ.refl 8) (σ.cx 9) (σ.cy 9) (σ.cz 9) (σ.r 9)
      (σ.refl 9) (σ.cx 10) (σ.cy 10) (σ.cz 10) (σ.r 10) (σ.refl 10) (σ.cx 11) (σ.cy 11) (σ.cz 11) (σ.r 11)
      (σ.refl 11) (σ.cx 12) (σ.cy 12) (σ.cz 12) (σ.r 12) (σ.refl 12) (σ.cx 13) (σ.cy 13) (σ.cz 13) (σ.r 13)
      (σ.refl 13) (σ.cx 14) (σ.cy 14) (σ.cz 14) (σ.r 14) (σ.refl 14) (σ.cx 15) (σ.cy 15) (σ.cz 15) (σ.r 15)
      (σ.refl 15) infS c0_i32 c1_i32 k0_t1 X.px X.py X.pz X.dx X.dy X.dz X.it
      = pure ⟨Y.px, Y.py, Y.pz, Y.dx, Y.dy, Y.dz, Y.it, (lo σ Y).t, (lo σ Y).cx, (lo σ Y).cy, (lo σ Y).cz, (lo σ Y).r,
          (lo σ Y).refl, (upd σ Y 11 (upd σ Y 10 (upd σ Y 9 (upd σ Y 8 init)))).t,
          (upd σ Y 11 (upd σ Y 10 (upd σ Y 9 (upd σ Y 8 init)))).cx,
          (upd σ Y 11 (upd σ Y 10 (upd σ Y 9 (upd σ Y 8 init)))).cy,
          (upd σ Y 11 (upd σ Y 10 (upd σ Y 9 (upd σ Y 8 init)))).cz,
          (upd σ Y 11 (upd σ Y 10 (upd σ Y 9 (upd σ Y 8 init)))).r,
          (upd σ Y 11 (upd σ Y 10 (upd σ Y 9 (upd σ Y 8 init)))).refl, bcx σ 12⟩ := by
  subst hY
  simp (maxSteps := 10000000) only [k0_part404, k0_part1, k0_part2, k0_part3, k0_part4, k0_part5, k0_part6, k0_part7, k0_part8, k0_part9, k0_part10,
    k0_part11, k0_part12, k0_part13, k0_part14, k0_part15, k0_part16, k0_part17, k0_part18, k0_part19, k0_part20,
    k0_part21, k0_part22, k0_part23, k0_part24, k0_part25, k0_part26, k0_part27, k0_part28, k0_part29, k0_part30,
    k0_part31, k0_part32, k0_part33, k0_part34, k0_part35, k0_part36, k0_part37, k0_part38, k0_part39, k0_part40,
    k0_part41, k0_part42, k0_part43, k0_part44, k0_part45, k0_part46, k0_part47, k0_part48, k0_part49, k0_part50,
    k0_part51, k0_part52, k0_part53, k0_part54, k0_part55, k0_part56, k0_part57, k0_part58, k0_part59, k0_part60,
    pure_bind_eq, f_infV, f_zeroV, f_oneV, f_twoV, f_epsV, f_bcx, f_bcy, f_bcz, f_br, f_brefl, f_rr, f_brr, f_ox,
    f_oy, f_oz, f_bx, f_by, f_bxy, f_bz, f_b, f_ccx, f_ccy, f_ccxy, f_ccz, f_cc, f_c, f_bb, f_disc, f_valid, f_sq,
    f_nb, f_t0, f_t1, f_far0, f_ok0, f_far1, f_ok1, f_t1i, f_t, f_take0, f_upd0_t, f_upd0_cx, f_upd0_cy, f_upd0_cz,
    f_upd0_r, f_upd0_refl, f_take, f_upd_t, f_upd_cx, f_upd_cy, f_upd_cz, f_upd_r, f_upd_refl, f_lo, f_hi, f_tk,
    f_best_t, f_best_cx, f_best_cy, f_best_cz, f_best_r, f_best_refl, f_hit, f_lit, f_active, f_tsafe, f_tdx, f_tdy,
    f_tdz, f_hx, f_hy, f_hz, f_mx, f_my, f_mz, f_nx, f_ny, f_nz, f_dnx, f_dnz, f_dnxz, f_dny, f_dn, f_k2, f_kx, f_ky,
    f_kz, f_ex, f_ey, f_ez, f_ni, f_px, f_py, f_pz, f_dx, f_dy, f_dz, f_it]

set_option maxRecDepth 100000 in
set_option maxHeartbeats 0 in
/-- Part 2 of the region: four bounces and a piece of a fifth. -/
theorem part405 (Y : Rays F) (hY : bounce σ (bounce σ (bounce σ (bounce σ X))) = Y) :
    k0_part405 i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16
      harg16 arg17 harg17 (σ.cx 0) (σ.cy 0) (σ.cz 0) (σ.r 0) (σ.refl 0) (σ.cx 1) (σ.cy 1) (σ.cz 1)
      (σ.r 1) (σ.refl 1) (σ.cx 2) (σ.cy 2) (σ.cz 2) (σ.r 2) (σ.refl 2) (σ.cx 3) (σ.cy 3) (σ.cz 3) (σ.r 3)
      (σ.refl 3) (σ.cx 4) (σ.cy 4) (σ.cz 4) (σ.r 4) (σ.refl 4) (σ.cx 5) (σ.cy 5) (σ.cz 5) (σ.r 5)
      (σ.refl 5) (σ.cx 6) (σ.cy 6) (σ.cz 6) (σ.r 6) (σ.refl 6) (σ.cx 7) (σ.cy 7) (σ.cz 7) (σ.r 7)
      (σ.refl 7) (σ.cx 8) (σ.cy 8) (σ.cz 8) (σ.r 8) (σ.refl 8) (σ.cx 9) (σ.cy 9) (σ.cz 9) (σ.r 9)
      (σ.refl 9) (σ.cx 10) (σ.cy 10) (σ.cz 10) (σ.r 10) (σ.refl 10) (σ.cx 11) (σ.cy 11) (σ.cz 11) (σ.r 11)
      (σ.refl 11) (σ.cx 12) (σ.cy 12) (σ.cz 12) (σ.r 12) (σ.refl 12) (σ.cx 13) (σ.cy 13) (σ.cz 13) (σ.r 13)
      (σ.refl 13) (σ.cx 14) (σ.cy 14) (σ.cz 14) (σ.r 14) (σ.refl 14) (σ.cx 15) (σ.cy 15) (σ.cz 15) (σ.r 15)
      (σ.refl 15) infS X.px X.py X.pz X.dx X.dy X.dz X.it (lo σ X).t (lo σ X).cx (lo σ X).cy (lo σ X).cz
      (lo σ X).r (lo σ X).refl (upd σ X 11 (upd σ X 10 (upd σ X 9 (upd σ X 8 init)))).t
      (upd σ X 11 (upd σ X 10 (upd σ X 9 (upd σ X 8 init)))).cx
      (upd σ X 11 (upd σ X 10 (upd σ X 9 (upd σ X 8 init)))).cy
      (upd σ X 11 (upd σ X 10 (upd σ X 9 (upd σ X 8 init)))).cz
      (upd σ X 11 (upd σ X 10 (upd σ X 9 (upd σ X 8 init)))).r
      (upd σ X 11 (upd σ X 10 (upd σ X 9 (upd σ X 8 init)))).refl (bcx σ 12)
      = pure ⟨Y.px, Y.py, Y.pz, Y.dx, Y.dy, Y.dz, Y.it,
          (upd σ Y 6 (upd σ Y 5 (upd σ Y 4 (upd σ Y 3 (upd σ Y 2 (upd σ Y 1 (upd σ Y 0 init))))))).t,
          (upd σ Y 6 (upd σ Y 5 (upd σ Y 4 (upd σ Y 3 (upd σ Y 2 (upd σ Y 1 (upd σ Y 0 init))))))).cx,
          (upd σ Y 6 (upd σ Y 5 (upd σ Y 4 (upd σ Y 3 (upd σ Y 2 (upd σ Y 1 (upd σ Y 0 init))))))).cy,
          (upd σ Y 6 (upd σ Y 5 (upd σ Y 4 (upd σ Y 3 (upd σ Y 2 (upd σ Y 1 (upd σ Y 0 init))))))).cz,
          (upd σ Y 6 (upd σ Y 5 (upd σ Y 4 (upd σ Y 3 (upd σ Y 2 (upd σ Y 1 (upd σ Y 0 init))))))).r,
          (upd σ Y 6 (upd σ Y 5 (upd σ Y 4 (upd σ Y 3 (upd σ Y 2 (upd σ Y 1 (upd σ Y 0 init))))))).refl, b σ Y 7,
          c σ Y 7, bb σ Y 7⟩ := by
  subst hY
  simp (maxSteps := 10000000) only [k0_part405, k0_part61, k0_part62, k0_part63, k0_part64, k0_part65, k0_part66, k0_part67, k0_part68, k0_part69,
    k0_part70, k0_part71, k0_part72, k0_part73, k0_part74, k0_part75, k0_part76, k0_part77, k0_part78, k0_part79,
    k0_part80, k0_part81, k0_part82, k0_part83, k0_part84, k0_part85, k0_part86, k0_part87, k0_part88, k0_part89,
    k0_part90, k0_part91, k0_part92, k0_part93, k0_part94, k0_part95, k0_part96, k0_part97, k0_part98, k0_part99,
    k0_part100, k0_part101, k0_part102, k0_part103, k0_part104, k0_part105, k0_part106, k0_part107, k0_part108,
    k0_part109, k0_part110, k0_part111, k0_part112, k0_part113, k0_part114, k0_part115, k0_part116, k0_part117,
    k0_part118, k0_part119, k0_part120, pure_bind_eq, f_infV, f_zeroV, f_oneV, f_twoV, f_epsV, f_bcx, f_bcy, f_bcz,
    f_br, f_brefl, f_rr, f_brr, f_ox, f_oy, f_oz, f_bx, f_by, f_bxy, f_bz, f_b, f_ccx, f_ccy, f_ccxy, f_ccz, f_cc,
    f_c, f_bb, f_disc, f_valid, f_sq, f_nb, f_t0, f_t1, f_far0, f_ok0, f_far1, f_ok1, f_t1i, f_t, f_take0, f_upd0_t,
    f_upd0_cx, f_upd0_cy, f_upd0_cz, f_upd0_r, f_upd0_refl, f_take, f_upd_t, f_upd_cx, f_upd_cy, f_upd_cz, f_upd_r,
    f_upd_refl, f_lo, f_hi, f_tk, f_best_t, f_best_cx, f_best_cy, f_best_cz, f_best_r, f_best_refl, f_hit, f_lit,
    f_active, f_tsafe, f_tdx, f_tdy, f_tdz, f_hx, f_hy, f_hz, f_mx, f_my, f_mz, f_nx, f_ny, f_nz, f_dnx, f_dnz,
    f_dnxz, f_dny, f_dn, f_k2, f_kx, f_ky, f_kz, f_ex, f_ey, f_ez, f_ni, f_px, f_py, f_pz, f_dx, f_dy, f_dz, f_it]

set_option maxRecDepth 100000 in
set_option maxHeartbeats 0 in
/-- Part 3 of the region: four bounces and a piece of a fifth. -/
theorem part406 (Y : Rays F) (hY : bounce σ (bounce σ (bounce σ (bounce σ X))) = Y) :
    k0_part406 i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16
      harg16 arg17 harg17 (σ.cx 0) (σ.cy 0) (σ.cz 0) (σ.r 0) (σ.refl 0) (σ.cx 1) (σ.cy 1) (σ.cz 1)
      (σ.r 1) (σ.refl 1) (σ.cx 2) (σ.cy 2) (σ.cz 2) (σ.r 2) (σ.refl 2) (σ.cx 3) (σ.cy 3) (σ.cz 3) (σ.r 3)
      (σ.refl 3) (σ.cx 4) (σ.cy 4) (σ.cz 4) (σ.r 4) (σ.refl 4) (σ.cx 5) (σ.cy 5) (σ.cz 5) (σ.r 5)
      (σ.refl 5) (σ.cx 6) (σ.cy 6) (σ.cz 6) (σ.r 6) (σ.refl 6) (σ.cx 7) (σ.cy 7) (σ.cz 7) (σ.r 7)
      (σ.refl 7) (σ.cx 8) (σ.cy 8) (σ.cz 8) (σ.r 8) (σ.refl 8) (σ.cx 9) (σ.cy 9) (σ.cz 9) (σ.r 9)
      (σ.refl 9) (σ.cx 10) (σ.cy 10) (σ.cz 10) (σ.r 10) (σ.refl 10) (σ.cx 11) (σ.cy 11) (σ.cz 11) (σ.r 11)
      (σ.refl 11) (σ.cx 12) (σ.cy 12) (σ.cz 12) (σ.r 12) (σ.refl 12) (σ.cx 13) (σ.cy 13) (σ.cz 13) (σ.r 13)
      (σ.refl 13) (σ.cx 14) (σ.cy 14) (σ.cz 14) (σ.r 14) (σ.refl 14) (σ.cx 15) (σ.cy 15) (σ.cz 15) (σ.r 15)
      (σ.refl 15) infS X.px X.py X.pz X.dx X.dy X.dz X.it
      (upd σ X 6 (upd σ X 5 (upd σ X 4 (upd σ X 3 (upd σ X 2 (upd σ X 1 (upd σ X 0 init))))))).t
      (upd σ X 6 (upd σ X 5 (upd σ X 4 (upd σ X 3 (upd σ X 2 (upd σ X 1 (upd σ X 0 init))))))).cx
      (upd σ X 6 (upd σ X 5 (upd σ X 4 (upd σ X 3 (upd σ X 2 (upd σ X 1 (upd σ X 0 init))))))).cy
      (upd σ X 6 (upd σ X 5 (upd σ X 4 (upd σ X 3 (upd σ X 2 (upd σ X 1 (upd σ X 0 init))))))).cz
      (upd σ X 6 (upd σ X 5 (upd σ X 4 (upd σ X 3 (upd σ X 2 (upd σ X 1 (upd σ X 0 init))))))).r
      (upd σ X 6 (upd σ X 5 (upd σ X 4 (upd σ X 3 (upd σ X 2 (upd σ X 1 (upd σ X 0 init))))))).refl (b σ X 7)
      (c σ X 7) (bb σ X 7)
      = pure ⟨Y.px, Y.py, Y.pz, Y.dx, Y.dy, Y.dz, Y.it, (upd σ Y 1 (upd σ Y 0 init)).t, (upd σ Y 1 (upd σ Y 0 init)).cx,
          (upd σ Y 1 (upd σ Y 0 init)).cy, (upd σ Y 1 (upd σ Y 0 init)).cz, (upd σ Y 1 (upd σ Y 0 init)).r,
          (upd σ Y 1 (upd σ Y 0 init)).refl, b σ Y 2, valid σ Y 2, sq σ Y 2, nb σ Y 2⟩ := by
  subst hY
  simp (maxSteps := 10000000) only [k0_part406, k0_part121, k0_part122, k0_part123, k0_part124, k0_part125, k0_part126, k0_part127, k0_part128,
    k0_part129, k0_part130, k0_part131, k0_part132, k0_part133, k0_part134, k0_part135, k0_part136, k0_part137,
    k0_part138, k0_part139, k0_part140, k0_part141, k0_part142, k0_part143, k0_part144, k0_part145, k0_part146,
    k0_part147, k0_part148, k0_part149, k0_part150, k0_part151, k0_part152, k0_part153, k0_part154, k0_part155,
    k0_part156, k0_part157, k0_part158, k0_part159, k0_part160, k0_part161, k0_part162, k0_part163, k0_part164,
    k0_part165, k0_part166, k0_part167, k0_part168, k0_part169, k0_part170, k0_part171, k0_part172, k0_part173,
    k0_part174, k0_part175, k0_part176, k0_part177, k0_part178, k0_part179, k0_part180, pure_bind_eq, f_infV,
    f_zeroV, f_oneV, f_twoV, f_epsV, f_bcx, f_bcy, f_bcz, f_br, f_brefl, f_rr, f_brr, f_ox, f_oy, f_oz, f_bx, f_by,
    f_bxy, f_bz, f_b, f_ccx, f_ccy, f_ccxy, f_ccz, f_cc, f_c, f_bb, f_disc, f_valid, f_sq, f_nb, f_t0, f_t1, f_far0,
    f_ok0, f_far1, f_ok1, f_t1i, f_t, f_take0, f_upd0_t, f_upd0_cx, f_upd0_cy, f_upd0_cz, f_upd0_r, f_upd0_refl,
    f_take, f_upd_t, f_upd_cx, f_upd_cy, f_upd_cz, f_upd_r, f_upd_refl, f_lo, f_hi, f_tk, f_best_t, f_best_cx,
    f_best_cy, f_best_cz, f_best_r, f_best_refl, f_hit, f_lit, f_active, f_tsafe, f_tdx, f_tdy, f_tdz, f_hx, f_hy,
    f_hz, f_mx, f_my, f_mz, f_nx, f_ny, f_nz, f_dnx, f_dnz, f_dnxz, f_dny, f_dn, f_k2, f_kx, f_ky, f_kz, f_ex, f_ey,
    f_ez, f_ni, f_px, f_py, f_pz, f_dx, f_dy, f_dz, f_it]

set_option maxRecDepth 100000 in
set_option maxHeartbeats 0 in
/-- Part 4 of the region: three bounces and a piece of a fourth. -/
theorem part407 (Y : Rays F) (hY : bounce σ (bounce σ (bounce σ X)) = Y) :
    k0_part407 i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16
      harg16 arg17 harg17 (σ.cx 0) (σ.cy 0) (σ.cz 0) (σ.r 0) (σ.refl 0) (σ.cx 1) (σ.cy 1) (σ.cz 1)
      (σ.r 1) (σ.refl 1) (σ.cx 2) (σ.cy 2) (σ.cz 2) (σ.r 2) (σ.refl 2) (σ.cx 3) (σ.cy 3) (σ.cz 3) (σ.r 3)
      (σ.refl 3) (σ.cx 4) (σ.cy 4) (σ.cz 4) (σ.r 4) (σ.refl 4) (σ.cx 5) (σ.cy 5) (σ.cz 5) (σ.r 5)
      (σ.refl 5) (σ.cx 6) (σ.cy 6) (σ.cz 6) (σ.r 6) (σ.refl 6) (σ.cx 7) (σ.cy 7) (σ.cz 7) (σ.r 7)
      (σ.refl 7) (σ.cx 8) (σ.cy 8) (σ.cz 8) (σ.r 8) (σ.refl 8) (σ.cx 9) (σ.cy 9) (σ.cz 9) (σ.r 9)
      (σ.refl 9) (σ.cx 10) (σ.cy 10) (σ.cz 10) (σ.r 10) (σ.refl 10) (σ.cx 11) (σ.cy 11) (σ.cz 11) (σ.r 11)
      (σ.refl 11) (σ.cx 12) (σ.cy 12) (σ.cz 12) (σ.r 12) (σ.refl 12) (σ.cx 13) (σ.cy 13) (σ.cz 13) (σ.r 13)
      (σ.refl 13) (σ.cx 14) (σ.cy 14) (σ.cz 14) (σ.r 14) (σ.refl 14) (σ.cx 15) (σ.cy 15) (σ.cz 15) (σ.r 15)
      (σ.refl 15) infS X.px X.py X.pz X.dx X.dy X.dz X.it (upd σ X 1 (upd σ X 0 init)).t
      (upd σ X 1 (upd σ X 0 init)).cx (upd σ X 1 (upd σ X 0 init)).cy (upd σ X 1 (upd σ X 0 init)).cz
      (upd σ X 1 (upd σ X 0 init)).r (upd σ X 1 (upd σ X 0 init)).refl (b σ X 2) (valid σ X 2) (sq σ X 2)
      (nb σ X 2)
      = pure ⟨Y.px, Y.py, Y.pz, Y.dx, Y.dy, Y.dz, Y.it, (lo σ Y).t, (lo σ Y).cx, (lo σ Y).cy, (lo σ Y).cz, (lo σ Y).r,
          (lo σ Y).refl, (upd σ Y 13 (upd σ Y 12 (upd σ Y 11 (upd σ Y 10 (upd σ Y 9 (upd σ Y 8 init)))))).t,
          (upd σ Y 13 (upd σ Y 12 (upd σ Y 11 (upd σ Y 10 (upd σ Y 9 (upd σ Y 8 init)))))).cx,
          (upd σ Y 13 (upd σ Y 12 (upd σ Y 11 (upd σ Y 10 (upd σ Y 9 (upd σ Y 8 init)))))).cy,
          (upd σ Y 13 (upd σ Y 12 (upd σ Y 11 (upd σ Y 10 (upd σ Y 9 (upd σ Y 8 init)))))).cz,
          (upd σ Y 13 (upd σ Y 12 (upd σ Y 11 (upd σ Y 10 (upd σ Y 9 (upd σ Y 8 init)))))).r,
          (upd σ Y 13 (upd σ Y 12 (upd σ Y 11 (upd σ Y 10 (upd σ Y 9 (upd σ Y 8 init)))))).refl, t0 σ Y 14,
          t1 σ Y 14, ok0 σ Y 14, ok1 σ Y 14⟩ := by
  subst hY
  simp (maxSteps := 10000000) only [k0_part407, k0_part181, k0_part182, k0_part183, k0_part184, k0_part185, k0_part186, k0_part187, k0_part188,
    k0_part189, k0_part190, k0_part191, k0_part192, k0_part193, k0_part194, k0_part195, k0_part196, k0_part197,
    k0_part198, k0_part199, k0_part200, k0_part201, k0_part202, k0_part203, k0_part204, k0_part205, k0_part206,
    k0_part207, k0_part208, k0_part209, k0_part210, k0_part211, k0_part212, k0_part213, k0_part214, k0_part215,
    k0_part216, k0_part217, k0_part218, k0_part219, k0_part220, k0_part221, k0_part222, k0_part223, k0_part224,
    k0_part225, k0_part226, k0_part227, k0_part228, k0_part229, k0_part230, k0_part231, k0_part232, k0_part233,
    k0_part234, k0_part235, k0_part236, k0_part237, k0_part238, k0_part239, k0_part240, pure_bind_eq, f_infV,
    f_zeroV, f_oneV, f_twoV, f_epsV, f_bcx, f_bcy, f_bcz, f_br, f_brefl, f_rr, f_brr, f_ox, f_oy, f_oz, f_bx, f_by,
    f_bxy, f_bz, f_b, f_ccx, f_ccy, f_ccxy, f_ccz, f_cc, f_c, f_bb, f_disc, f_valid, f_sq, f_nb, f_t0, f_t1, f_far0,
    f_ok0, f_far1, f_ok1, f_t1i, f_t, f_take0, f_upd0_t, f_upd0_cx, f_upd0_cy, f_upd0_cz, f_upd0_r, f_upd0_refl,
    f_take, f_upd_t, f_upd_cx, f_upd_cy, f_upd_cz, f_upd_r, f_upd_refl, f_lo, f_hi, f_tk, f_best_t, f_best_cx,
    f_best_cy, f_best_cz, f_best_r, f_best_refl, f_hit, f_lit, f_active, f_tsafe, f_tdx, f_tdy, f_tdz, f_hx, f_hy,
    f_hz, f_mx, f_my, f_mz, f_nx, f_ny, f_nz, f_dnx, f_dnz, f_dnxz, f_dny, f_dn, f_k2, f_kx, f_ky, f_kz, f_ex, f_ey,
    f_ez, f_ni, f_px, f_py, f_pz, f_dx, f_dy, f_dz, f_it]

set_option maxRecDepth 100000 in
set_option maxHeartbeats 0 in
/-- Part 5 of the region: four bounces and a piece of a fifth. -/
theorem part408 (Y : Rays F) (hY : bounce σ (bounce σ (bounce σ (bounce σ X))) = Y) :
    k0_part408 i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16
      harg16 arg17 harg17 (σ.cx 0) (σ.cy 0) (σ.cz 0) (σ.r 0) (σ.refl 0) (σ.cx 1) (σ.cy 1) (σ.cz 1)
      (σ.r 1) (σ.refl 1) (σ.cx 2) (σ.cy 2) (σ.cz 2) (σ.r 2) (σ.refl 2) (σ.cx 3) (σ.cy 3) (σ.cz 3) (σ.r 3)
      (σ.refl 3) (σ.cx 4) (σ.cy 4) (σ.cz 4) (σ.r 4) (σ.refl 4) (σ.cx 5) (σ.cy 5) (σ.cz 5) (σ.r 5)
      (σ.refl 5) (σ.cx 6) (σ.cy 6) (σ.cz 6) (σ.r 6) (σ.refl 6) (σ.cx 7) (σ.cy 7) (σ.cz 7) (σ.r 7)
      (σ.refl 7) (σ.cx 8) (σ.cy 8) (σ.cz 8) (σ.r 8) (σ.refl 8) (σ.cx 9) (σ.cy 9) (σ.cz 9) (σ.r 9)
      (σ.refl 9) (σ.cx 10) (σ.cy 10) (σ.cz 10) (σ.r 10) (σ.refl 10) (σ.cx 11) (σ.cy 11) (σ.cz 11) (σ.r 11)
      (σ.refl 11) (σ.cx 12) (σ.cy 12) (σ.cz 12) (σ.r 12) (σ.refl 12) (σ.cx 13) (σ.cy 13) (σ.cz 13) (σ.r 13)
      (σ.refl 13) (σ.cx 14) (σ.cy 14) (σ.cz 14) (σ.r 14) (σ.refl 14) (σ.cx 15) (σ.cy 15) (σ.cz 15) (σ.r 15)
      (σ.refl 15) infS X.px X.py X.pz X.dx X.dy X.dz X.it (lo σ X).t (lo σ X).cx (lo σ X).cy (lo σ X).cz
      (lo σ X).r (lo σ X).refl (upd σ X 13 (upd σ X 12 (upd σ X 11 (upd σ X 10 (upd σ X 9 (upd σ X 8 init)))))).t
      (upd σ X 13 (upd σ X 12 (upd σ X 11 (upd σ X 10 (upd σ X 9 (upd σ X 8 init)))))).cx
      (upd σ X 13 (upd σ X 12 (upd σ X 11 (upd σ X 10 (upd σ X 9 (upd σ X 8 init)))))).cy
      (upd σ X 13 (upd σ X 12 (upd σ X 11 (upd σ X 10 (upd σ X 9 (upd σ X 8 init)))))).cz
      (upd σ X 13 (upd σ X 12 (upd σ X 11 (upd σ X 10 (upd σ X 9 (upd σ X 8 init)))))).r
      (upd σ X 13 (upd σ X 12 (upd σ X 11 (upd σ X 10 (upd σ X 9 (upd σ X 8 init)))))).refl (t0 σ X 14)
      (t1 σ X 14) (ok0 σ X 14) (ok1 σ X 14)
      = pure ⟨Y.px, Y.py, Y.pz, Y.dx, Y.dy, Y.dz, Y.it, (lo σ Y).t, (lo σ Y).cx, (lo σ Y).cy, (lo σ Y).cz, (lo σ Y).r,
          (lo σ Y).refl, (upd σ Y 8 init).cy, (upd σ Y 8 init).cz, (upd σ Y 8 init).r, (upd σ Y 8 init).refl,
          take σ Y 9 (upd σ Y 8 init), (upd σ Y 9 (upd σ Y 8 init)).t, (upd σ Y 9 (upd σ Y 8 init)).cx, bcy σ 9⟩ := by
  subst hY
  simp (maxSteps := 10000000) only [k0_part408, k0_part241, k0_part242, k0_part243, k0_part244, k0_part245, k0_part246, k0_part247, k0_part248,
    k0_part249, k0_part250, k0_part251, k0_part252, k0_part253, k0_part254, k0_part255, k0_part256, k0_part257,
    k0_part258, k0_part259, k0_part260, k0_part261, k0_part262, k0_part263, k0_part264, k0_part265, k0_part266,
    k0_part267, k0_part268, k0_part269, k0_part270, k0_part271, k0_part272, k0_part273, k0_part274, k0_part275,
    k0_part276, k0_part277, k0_part278, k0_part279, k0_part280, k0_part281, k0_part282, k0_part283, k0_part284,
    k0_part285, k0_part286, k0_part287, k0_part288, k0_part289, k0_part290, k0_part291, k0_part292, k0_part293,
    k0_part294, k0_part295, k0_part296, k0_part297, k0_part298, k0_part299, k0_part300, pure_bind_eq, f_infV,
    f_zeroV, f_oneV, f_twoV, f_epsV, f_bcx, f_bcy, f_bcz, f_br, f_brefl, f_rr, f_brr, f_ox, f_oy, f_oz, f_bx, f_by,
    f_bxy, f_bz, f_b, f_ccx, f_ccy, f_ccxy, f_ccz, f_cc, f_c, f_bb, f_disc, f_valid, f_sq, f_nb, f_t0, f_t1, f_far0,
    f_ok0, f_far1, f_ok1, f_t1i, f_t, f_take0, f_upd0_t, f_upd0_cx, f_upd0_cy, f_upd0_cz, f_upd0_r, f_upd0_refl,
    f_take, f_upd_t, f_upd_cx, f_upd_cy, f_upd_cz, f_upd_r, f_upd_refl, f_lo, f_hi, f_tk, f_best_t, f_best_cx,
    f_best_cy, f_best_cz, f_best_r, f_best_refl, f_hit, f_lit, f_active, f_tsafe, f_tdx, f_tdy, f_tdz, f_hx, f_hy,
    f_hz, f_mx, f_my, f_mz, f_nx, f_ny, f_nz, f_dnx, f_dnz, f_dnxz, f_dny, f_dn, f_k2, f_kx, f_ky, f_kz, f_ex, f_ey,
    f_ez, f_ni, f_px, f_py, f_pz, f_dx, f_dy, f_dz, f_it]

set_option maxRecDepth 100000 in
set_option maxHeartbeats 0 in
/-- Part 6 of the region: four bounces and a piece of a fifth. -/
theorem part409 (Y : Rays F) (hY : bounce σ (bounce σ (bounce σ (bounce σ X))) = Y) :
    k0_part409 i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16
      harg16 arg17 harg17 (σ.cx 0) (σ.cy 0) (σ.cz 0) (σ.r 0) (σ.refl 0) (σ.cx 1) (σ.cy 1) (σ.cz 1)
      (σ.r 1) (σ.refl 1) (σ.cx 2) (σ.cy 2) (σ.cz 2) (σ.r 2) (σ.refl 2) (σ.cx 3) (σ.cy 3) (σ.cz 3) (σ.r 3)
      (σ.refl 3) (σ.cx 4) (σ.cy 4) (σ.cz 4) (σ.r 4) (σ.refl 4) (σ.cx 5) (σ.cy 5) (σ.cz 5) (σ.r 5)
      (σ.refl 5) (σ.cx 6) (σ.cy 6) (σ.cz 6) (σ.r 6) (σ.refl 6) (σ.cx 7) (σ.cy 7) (σ.cz 7) (σ.r 7)
      (σ.refl 7) (σ.cx 8) (σ.cy 8) (σ.cz 8) (σ.r 8) (σ.refl 8) (σ.cx 9) (σ.cy 9) (σ.cz 9) (σ.r 9)
      (σ.refl 9) (σ.cx 10) (σ.cy 10) (σ.cz 10) (σ.r 10) (σ.refl 10) (σ.cx 11) (σ.cy 11) (σ.cz 11) (σ.r 11)
      (σ.refl 11) (σ.cx 12) (σ.cy 12) (σ.cz 12) (σ.r 12) (σ.refl 12) (σ.cx 13) (σ.cy 13) (σ.cz 13) (σ.r 13)
      (σ.refl 13) (σ.cx 14) (σ.cy 14) (σ.cz 14) (σ.r 14) (σ.refl 14) (σ.cx 15) (σ.cy 15) (σ.cz 15) (σ.r 15)
      (σ.refl 15) infS X.px X.py X.pz X.dx X.dy X.dz X.it (lo σ X).t (lo σ X).cx (lo σ X).cy (lo σ X).cz
      (lo σ X).r (lo σ X).refl (upd σ X 8 init).cy (upd σ X 8 init).cz (upd σ X 8 init).r (upd σ X 8 init).refl
      (take σ X 9 (upd σ X 8 init)) (upd σ X 9 (upd σ X 8 init)).t (upd σ X 9 (upd σ X 8 init)).cx (bcy σ 9)
      = pure ⟨Y.px, Y.py, Y.pz, Y.dx, Y.dy, Y.dz, Y.it,
          (upd σ Y 4 (upd σ Y 3 (upd σ Y 2 (upd σ Y 1 (upd σ Y 0 init))))).t,
          (upd σ Y 4 (upd σ Y 3 (upd σ Y 2 (upd σ Y 1 (upd σ Y 0 init))))).cx,
          (upd σ Y 4 (upd σ Y 3 (upd σ Y 2 (upd σ Y 1 (upd σ Y 0 init))))).cy,
          (upd σ Y 4 (upd σ Y 3 (upd σ Y 2 (upd σ Y 1 (upd σ Y 0 init))))).cz,
          (upd σ Y 4 (upd σ Y 3 (upd σ Y 2 (upd σ Y 1 (upd σ Y 0 init))))).r,
          (upd σ Y 4 (upd σ Y 3 (upd σ Y 2 (upd σ Y 1 (upd σ Y 0 init))))).refl, oy σ Y 5, oz σ Y 5, b σ Y 5,
          ccx σ Y 5⟩ := by
  subst hY
  simp (maxSteps := 10000000) only [k0_part409, k0_part301, k0_part302, k0_part303, k0_part304, k0_part305, k0_part306, k0_part307, k0_part308,
    k0_part309, k0_part310, k0_part311, k0_part312, k0_part313, k0_part314, k0_part315, k0_part316, k0_part317,
    k0_part318, k0_part319, k0_part320, k0_part321, k0_part322, k0_part323, k0_part324, k0_part325, k0_part326,
    k0_part327, k0_part328, k0_part329, k0_part330, k0_part331, k0_part332, k0_part333, k0_part334, k0_part335,
    k0_part336, k0_part337, k0_part338, k0_part339, k0_part340, k0_part341, k0_part342, k0_part343, k0_part344,
    k0_part345, k0_part346, k0_part347, k0_part348, k0_part349, k0_part350, k0_part351, k0_part352, k0_part353,
    k0_part354, k0_part355, k0_part356, k0_part357, k0_part358, k0_part359, k0_part360, pure_bind_eq, f_infV,
    f_zeroV, f_oneV, f_twoV, f_epsV, f_bcx, f_bcy, f_bcz, f_br, f_brefl, f_rr, f_brr, f_ox, f_oy, f_oz, f_bx, f_by,
    f_bxy, f_bz, f_b, f_ccx, f_ccy, f_ccxy, f_ccz, f_cc, f_c, f_bb, f_disc, f_valid, f_sq, f_nb, f_t0, f_t1, f_far0,
    f_ok0, f_far1, f_ok1, f_t1i, f_t, f_take0, f_upd0_t, f_upd0_cx, f_upd0_cy, f_upd0_cz, f_upd0_r, f_upd0_refl,
    f_take, f_upd_t, f_upd_cx, f_upd_cy, f_upd_cz, f_upd_r, f_upd_refl, f_lo, f_hi, f_tk, f_best_t, f_best_cx,
    f_best_cy, f_best_cz, f_best_r, f_best_refl, f_hit, f_lit, f_active, f_tsafe, f_tdx, f_tdy, f_tdz, f_hx, f_hy,
    f_hz, f_mx, f_my, f_mz, f_nx, f_ny, f_nz, f_dnx, f_dnz, f_dnxz, f_dny, f_dn, f_k2, f_kx, f_ky, f_kz, f_ex, f_ey,
    f_ez, f_ni, f_px, f_py, f_pz, f_dx, f_dy, f_dz, f_it]

set_option maxRecDepth 100000 in
set_option maxHeartbeats 0 in
/-- Part 7 of the region: two bounces and all but the last lines of a third. -/
theorem part410 (Y : Rays F) (hY : bounce σ (bounce σ X) = Y) :
    k0_part410 i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16
      harg16 arg17 harg17 (σ.cx 0) (σ.cy 0) (σ.cz 0) (σ.r 0) (σ.refl 0) (σ.cx 1) (σ.cy 1) (σ.cz 1)
      (σ.r 1) (σ.refl 1) (σ.cx 2) (σ.cy 2) (σ.cz 2) (σ.r 2) (σ.refl 2) (σ.cx 3) (σ.cy 3) (σ.cz 3) (σ.r 3)
      (σ.refl 3) (σ.cx 4) (σ.cy 4) (σ.cz 4) (σ.r 4) (σ.refl 4) (σ.cx 5) (σ.cy 5) (σ.cz 5) (σ.r 5)
      (σ.refl 5) (σ.cx 6) (σ.cy 6) (σ.cz 6) (σ.r 6) (σ.refl 6) (σ.cx 7) (σ.cy 7) (σ.cz 7) (σ.r 7)
      (σ.refl 7) (σ.cx 8) (σ.cy 8) (σ.cz 8) (σ.r 8) (σ.refl 8) (σ.cx 9) (σ.cy 9) (σ.cz 9) (σ.r 9)
      (σ.refl 9) (σ.cx 10) (σ.cy 10) (σ.cz 10) (σ.r 10) (σ.refl 10) (σ.cx 11) (σ.cy 11) (σ.cz 11) (σ.r 11)
      (σ.refl 11) (σ.cx 12) (σ.cy 12) (σ.cz 12) (σ.r 12) (σ.refl 12) (σ.cx 13) (σ.cy 13) (σ.cz 13) (σ.r 13)
      (σ.refl 13) (σ.cx 14) (σ.cy 14) (σ.cz 14) (σ.r 14) (σ.refl 14) (σ.cx 15) (σ.cy 15) (σ.cz 15) (σ.r 15)
      (σ.refl 15) infS X.px X.py X.pz X.dx X.dy X.dz X.it
      (upd σ X 4 (upd σ X 3 (upd σ X 2 (upd σ X 1 (upd σ X 0 init))))).t
      (upd σ X 4 (upd σ X 3 (upd σ X 2 (upd σ X 1 (upd σ X 0 init))))).cx
      (upd σ X 4 (upd σ X 3 (upd σ X 2 (upd σ X 1 (upd σ X 0 init))))).cy
      (upd σ X 4 (upd σ X 3 (upd σ X 2 (upd σ X 1 (upd σ X 0 init))))).cz
      (upd σ X 4 (upd σ X 3 (upd σ X 2 (upd σ X 1 (upd σ X 0 init))))).r
      (upd σ X 4 (upd σ X 3 (upd σ X 2 (upd σ X 1 (upd σ X 0 init))))).refl (oy σ X 5) (oz σ X 5) (b σ X 5)
      (ccx σ X 5)
      = pure ⟨Y.dx, Y.dy, Y.dz, Y.it, active σ Y, ex σ Y, ey σ Y, ez σ Y, ni σ Y, (bounce σ Y).px, (bounce σ Y).py,
          (bounce σ Y).pz⟩ := by
  subst hY
  simp (maxSteps := 10000000) only [k0_part410, k0_part361, k0_part362, k0_part363, k0_part364, k0_part365, k0_part366, k0_part367, k0_part368,
    k0_part369, k0_part370, k0_part371, k0_part372, k0_part373, k0_part374, k0_part375, k0_part376, k0_part377,
    k0_part378, k0_part379, k0_part380, k0_part381, k0_part382, k0_part383, k0_part384, k0_part385, k0_part386,
    k0_part387, k0_part388, k0_part389, k0_part390, k0_part391, k0_part392, k0_part393, k0_part394, k0_part395,
    k0_part396, k0_part397, k0_part398, k0_part399, k0_part400, k0_part401, k0_part402, k0_part403, pure_bind_eq,
    f_infV, f_zeroV, f_oneV, f_twoV, f_epsV, f_bcx, f_bcy, f_bcz, f_br, f_brefl, f_rr, f_brr, f_ox, f_oy, f_oz, f_bx,
    f_by, f_bxy, f_bz, f_b, f_ccx, f_ccy, f_ccxy, f_ccz, f_cc, f_c, f_bb, f_disc, f_valid, f_sq, f_nb, f_t0, f_t1,
    f_far0, f_ok0, f_far1, f_ok1, f_t1i, f_t, f_take0, f_upd0_t, f_upd0_cx, f_upd0_cy, f_upd0_cz, f_upd0_r,
    f_upd0_refl, f_take, f_upd_t, f_upd_cx, f_upd_cy, f_upd_cz, f_upd_r, f_upd_refl, f_lo, f_hi, f_tk, f_best_t,
    f_best_cx, f_best_cy, f_best_cz, f_best_r, f_best_refl, f_hit, f_lit, f_active, f_tsafe, f_tdx, f_tdy, f_tdz,
    f_hx, f_hy, f_hz, f_mx, f_my, f_mz, f_nx, f_ny, f_nz, f_dnx, f_dnz, f_dnxz, f_dny, f_dn, f_k2, f_kx, f_ky, f_kz,
    f_ex, f_ey, f_ez, f_ni, f_px, f_py, f_pz, f_dx, f_dy, f_dz, f_it]

end Cert.Proof.Ideal

end
-- ==== Proof.Body.lean ====
/-
  The kernel's body with its loop taken as ONE value: `withLoop L` is the body as printed — the loads, the stores, the
  parts in between — where the loop stands replaced by `L`, a function of what the parts before it return. The region of
  the loop loads and stores nothing, so the body is `withLoop L` for the L that bounces the rays a hundred times (Proof/Trip.lean).
-/
module

public import proofs.«01_k».proof.KernelIdeal
public import Idealize.ShloMosaic.Lib.Exec.Context
public import proofs.«01_k».proof.Proof.Trip

@[expose] public section

noncomputable section

namespace Cert.Proof.Ideal

open Cert.KernelIdeal Facts₀ Facts Cert.Bounce
open Idealize.ShloMosaic Idealize.SL.Sem

variable (F : FTy → Type)

/-- What part 411 of the body returns. -/
abbrev P1 : Type :=
  Σ' (v3 : FVec F S16x128 .f32) (v7 : FVec F S16x128 .f32) (v11 : FVec F S16x128 .f32) (v19 : FVec F S16x128 .f32)
    (v28 : FVec F S16x128 .f32) (v29 : FVec F S16x128 .f32) (v30 : FVec F S16x128 .f32) (v32 : F .f32), F .f32
/-- What part 412 of the body returns. -/
abbrev P2 : Type :=
  Σ' (v36 : F .f32) (v39 : F .f32) (v40 : Elt F .f32) (v42 : F .f32) (v44 : F .f32) (v46 : F .f32) (v49 : F .f32) (v50
    : Elt F .f32) (v52 : F .f32) (v54 : F .f32) (v56 : F .f32) (v59 : F .f32), Elt F .f32
/-- What part 413 of the body returns. -/
abbrev P3 : Type :=
  Σ' (v62 : F .f32) (v64 : F .f32) (v66 : F .f32) (v69 : F .f32) (v70 : Elt F .f32) (v72 : F .f32) (v74 : F .f32) (v76
    : F .f32) (v79 : F .f32) (v80 : Elt F .f32) (v82 : F .f32) (v84 : F .f32), F .f32
/-- What part 414 of the body returns. -/
abbrev P4 : Type :=
  Σ' (v89 : F .f32) (v90 : Elt F .f32) (v92 : F .f32) (v94 : F .f32) (v96 : F .f32) (v99 : F .f32) (v100 : Elt F .f32)
    (v102 : F .f32) (v104 : F .f32) (v106 : F .f32) (v109 : F .f32) (v110 : Elt F .f32), F .f32
/-- What part 415 of the body returns. -/
abbrev P5 : Type :=
  Σ' (v114 : F .f32) (v116 : F .f32) (v119 : F .f32) (v120 : Elt F .f32) (v122 : F .f32) (v124 : F .f32) (v126 : F
    .f32) (v129 : F .f32) (v130 : Elt F .f32) (v132 : F .f32) (v134 : F .f32) (v136 : F .f32) (v138 : F .f32), F .f32
/-- What part 416 of the body returns. -/
abbrev P6 : Type :=
  Σ' (v139 : F .f32) (v140 : Elt F .f32) (v142 : F .f32) (v144 : F .f32) (v146 : F .f32) (v149 : F .f32) (v150 : Elt F
    .f32) (v152 : F .f32) (v154 : F .f32) (v156 : F .f32) (v159 : F .f32) (v160 : Elt F .f32) (v162 : F .f32), F .f32
/-- What part 417 of the body returns. -/
abbrev P7 : Type :=
  Σ' (v166 : F .f32) (v169 : F .f32) (v170 : Elt F .f32) (v172 : F .f32) (v174 : F .f32) (v176 : F .f32) (v179 : F
    .f32) (v180 : Elt F .f32) (v182 : F .f32) (v184 : F .f32) (v186 : F .f32) (v189 : F .f32) (v190 : Elt F .f32)
    (cst_209 : F .f32), BitVec 32
/-- What the loop carries. -/
abbrev Carry : Type :=
  FVec F S16x128 .f32 × FVec F S16x128 .f32 × FVec F S16x128 .f32 × FVec F S16x128 .f32 × FVec F S16x128 .f32 × FVec F
    S16x128 .f32 × FVec F S16x128 .f32
variable {F} [FloatOps F] [Facts]

/-- The body as printed, its loop replaced by the value `L` of what the parts before it return. -/
def withLoop (L : P1 F → P2 F → P3 F → P4 F → P5 F → P6 F → P7 F → Carry F) (i : grid0.Coords) (arg1 : Memref sig .tc
    .smem S16x3 .f32) (harg1 : arg1.IsWhole) (arg2 : Memref sig .tc .smem S16 .f32) (harg2 : arg2.IsWhole) (arg3 :
    Memref sig .tc .smem S16 .f32) (harg3 : arg3.IsWhole) (arg4 : Memref sig .tc .vmem S16x128 .f32) (harg4 :
    arg4.IsWhole) (arg5 : Memref sig .tc .vmem S16x128 .f32) (harg5 : arg5.IsWhole) (arg6 : Memref sig .tc .vmem S16x128
    .f32) (harg6 : arg6.IsWhole) (arg7 : Memref sig .tc .vmem S16x128 .f32) (harg7 : arg7.IsWhole) (arg8 : Memref sig
    .tc .vmem S16x128 .f32) (harg8 : arg8.IsWhole) (arg9 : Memref sig .tc .vmem S16x128 .f32) (harg9 : arg9.IsWhole)
    (arg10 : Memref sig .tc .vmem S16x128 .f32) (harg10 : arg10.IsWhole) (arg11 : Memref sig .tc .vmem S16x128 .f32)
    (harg11 : arg11.IsWhole) (arg12 : Memref sig .tc .vmem S16x128 .f32) (harg12 : arg12.IsWhole) (arg13 : Memref sig
    .tc .vmem S16x128 .f32) (harg13 : arg13.IsWhole) (arg14 : Memref sig .tc .vmem S16x128 .f32) (harg14 :
    arg14.IsWhole) (arg15 : Memref sig .tc .vmem S16x128 .f32) (harg15 : arg15.IsWhole) (arg16 : Memref sig .tc .vmem
    S16x128 .f32) (harg16 : arg16.IsWhole) (arg17 : Memref sig .tc .vmem S16x128 .f32) (harg17 : arg17.IsWhole) :
    Prog (TpuEff nD τ sig (Elt F) Λ₀ .tc) PUnit := do
  let x1 ← k0_part411 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let x2 ← k0_part412 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let x3 ← k0_part413 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let x4 ← k0_part414 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let x5 ← k0_part415 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let x6 ← k0_part416 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
    x5.2.2.2.2.2.2.2.2.2.2.2.2.1 x5.2.2.2.2.2.2.2.2.2.2.2.2.2
  let x7 ← k0_part417 i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
  let _ ← Prog.lift (.load arg11 (Rect.unit (s := S16x128) ![0, 0] S16x128.size inb_S16x128_S16x128_0_0).toLoadRect
    (View.loadsAt_vmem h_S16x128))
  Prog.lift (.store arg11 (Rect.unit (s := S16x128) ![0, 0] S16x128.size inb_S16x128_S16x128_0_0) ((L x1 x2 x3 x4 x5
    x6 x7).1) Finset.univ (View.stores_vmem_bits_univ h_S16x128 rfl) (.inl rfl))
  let _ ← Prog.lift (.load arg12 (Rect.unit (s := S16x128) ![0, 0] S16x128.size inb_S16x128_S16x128_0_0).toLoadRect
    (View.loadsAt_vmem h_S16x128))
  Prog.lift (.store arg12 (Rect.unit (s := S16x128) ![0, 0] S16x128.size inb_S16x128_S16x128_0_0) ((L x1 x2 x3 x4 x5
    x6 x7).2.1) Finset.univ (View.stores_vmem_bits_univ h_S16x128 rfl) (.inl rfl))
  let _ ← Prog.lift (.load arg13 (Rect.unit (s := S16x128) ![0, 0] S16x128.size inb_S16x128_S16x128_0_0).toLoadRect
    (View.loadsAt_vmem h_S16x128))
  Prog.lift (.store arg13 (Rect.unit (s := S16x128) ![0, 0] S16x128.size inb_S16x128_S16x128_0_0) ((L x1 x2 x3 x4 x5
    x6 x7).2.2.1) Finset.univ (View.stores_vmem_bits_univ h_S16x128 rfl) (.inl rfl))
  let _ ← Prog.lift (.load arg14 (Rect.unit (s := S16x128) ![0, 0] S16x128.size inb_S16x128_S16x128_0_0).toLoadRect
    (View.loadsAt_vmem h_S16x128))
  Prog.lift (.store arg14 (Rect.unit (s := S16x128) ![0, 0] S16x128.size inb_S16x128_S16x128_0_0) ((L x1 x2 x3 x4 x5
    x6 x7).2.2.2.1) Finset.univ (View.stores_vmem_bits_univ h_S16x128 rfl) (.inl rfl))
  let _ ← Prog.lift (.load arg15 (Rect.unit (s := S16x128) ![0, 0] S16x128.size inb_S16x128_S16x128_0_0).toLoadRect
    (View.loadsAt_vmem h_S16x128))
  Prog.lift (.store arg15 (Rect.unit (s := S16x128) ![0, 0] S16x128.size inb_S16x128_S16x128_0_0) ((L x1 x2 x3 x4 x5
    x6 x7).2.2.2.2.1) Finset.univ (View.stores_vmem_bits_univ h_S16x128 rfl) (.inl rfl))
  let _ ← Prog.lift (.load arg16 (Rect.unit (s := S16x128) ![0, 0] S16x128.size inb_S16x128_S16x128_0_0).toLoadRect
    (View.loadsAt_vmem h_S16x128))
  Prog.lift (.store arg16 (Rect.unit (s := S16x128) ![0, 0] S16x128.size inb_S16x128_S16x128_0_0) ((L x1 x2 x3 x4 x5
    x6 x7).2.2.2.2.2.1) Finset.univ (View.stores_vmem_bits_univ h_S16x128 rfl) (.inl rfl))
  let _ ← Prog.lift (.load arg17 (Rect.unit (s := S16x128) ![0, 0] S16x128.size inb_S16x128_S16x128_0_0).toLoadRect
    (View.loadsAt_vmem h_S16x128))
  Prog.lift (.store arg17 (Rect.unit (s := S16x128) ![0, 0] S16x128.size inb_S16x128_S16x128_0_0) ((L x1 x2 x3 x4 x5
    x6 x7).2.2.2.2.2.2) Finset.univ (View.stores_vmem_bits_univ h_S16x128 rfl) (.inl rfl))
  pure ⟨⟩

/-- The seven planes of the rays. -/
def planes (X : Rays F) : Carry F := (X.px, X.py, X.pz, X.dx, X.dy, X.dz, X.it)

/-- The scene: the centers, the radii and the reflectivities the parts return. -/
def scene : P1 F → P2 F → P3 F → P4 F → P5 F → P6 F → P7 F → Scene F
  | ⟨v3, v7, v11, v19, v28, v29, v30, v32, v34⟩,
    ⟨v36, v39, v40, v42, v44, v46, v49, v50, v52, v54, v56, v59, v60⟩,
    ⟨v62, v64, v66, v69, v70, v72, v74, v76, v79, v80, v82, v84, v86⟩,
    ⟨v89, v90, v92, v94, v96, v99, v100, v102, v104, v106, v109, v110, v112⟩,
    ⟨v114, v116, v119, v120, v122, v124, v126, v129, v130, v132, v134, v136, v138, cst_147⟩,
    ⟨v139, v140, v142, v144, v146, v149, v150, v152, v154, v156, v159, v160, v162, v164⟩,
    ⟨v166, v169, v170, v172, v174, v176, v179, v180, v182, v184, v186, v189, v190, cst_209, c0_i32⟩ =>
    ⟨![v32, v42, v52, v62, v72, v82, v92, v102, v112, v122, v132, v142, v152, v162, v172, v182],
      ![v34, v44, v54, v64, v74, v84, v94, v104, v114, v124, v134, v144, v154, v164, v174, v184],
      ![v36, v46, v56, v66, v76, v86, v96, v106, v116, v126, v136, v146, v156, v166, v176, v186],
      ![v39, v49, v59, v69, v79, v89, v99, v109, v119, v129, v139, v149, v159, v169, v179, v189],
      ![v40, v50, v60, v70, v80, v90, v100, v110, v120, v130, v140, v150, v160, v170, v180, v190]⟩

/-- The rays before the first bounce. -/
def rays : P1 F → Rays F
  | ⟨v3, v7, v11, v19, v28, v29, v30, _, _⟩ => ⟨v3, v7, v11, v28, v29, v30, v19⟩

/-- The loop: a hundred bounces. -/
def looped (x1 : P1 F) (x2 : P2 F) (x3 : P3 F) (x4 : P4 F) (x5 : P5 F) (x6 : P6 F) (x7 : P7 F) : Carry F :=
  planes ((bounce (scene x1 x2 x3 x4 x5 x6 x7))^[100] (rays x1))

/-- A loop whose region returns `f acc` at every trip is `f` iterated. -/
theorem loop_pure {E : Type → Type} {α : Type} {w : Nat} (l : Scf.Loop w) (hok : l.OK) (init : α)
    (body : Fin l.trips → α → Prog E α) (f : α → α) (h : ∀ k acc, body k acc = .ret (f acc)) :
    Scf.Loop.for l hok init body = .ret (f^[l.trips] init) := by
  refine (Scf.for_pure l.lb l.ub l.st hok init body (fun _ => f) h).trans ?_
  rw [Scf.fold_eq]
  congr 1
  have hl : ∀ (ks : List (Fin l.trips)) (a : α), ks.foldl (fun acc _ => f acc) a = f^[ks.length] a := by
    intro ks
    induction ks with
    | nil => intro a; rfl
    | cons k ks ih => intro a; exact ih (f a)
  rw [hl, List.length_finRange]

/-- A program that returns `a` is followed by what follows `a`. -/
theorem bind_of_eq {E : Type → Type} {α β : Type} {p : Prog E α} {a : α} {f : α → Prog E β} {r : Prog E β}
    (hp : p = pure a) (hf : f a = r) : p >>= f = r := by
  subst hp; exact hf

/-- The seven planes of what the loop carries, as rays. -/
def unplanes (a : Carry F) : Rays F :=
  ⟨a.1, a.2.1, a.2.2.1, a.2.2.2.1, a.2.2.2.2.1, a.2.2.2.2.2.1, a.2.2.2.2.2.2⟩

/-- Iterating on the planes is iterating on the rays. -/
theorem iterate_planes (g : Rays F → Rays F) (n : ℕ) (X : Rays F) :
    (fun a => planes (g (unplanes a)))^[n] (planes X) = planes (g^[n] X) := by
  induction n generalizing X with
  | zero => rfl
  | succ n ih => exact ih (g X)

/-- The last part returns the constant infinity among its scalars. -/
def fix : P7 F → P7 F
  | ⟨v166, v169, v170, v172, v174, v176, v179, v180, v182, v184, v186, v189, v190, _, c0_i32⟩ =>
    ⟨v166, v169, v170, v172, v174, v176, v179, v180, v182, v184, v186, v189, v190, infS, c0_i32⟩

/-- A program whose result `fix` leaves alone is followed by what follows `fix`'s. -/
theorem bind_fix {E : Type → Type} {α β : Type} {p : Prog E α} {g : α → α} (h : (p >>= fun x => pure (g x)) = p)
    (f : α → Prog E β) : p >>= f = p >>= fun x => f (g x) := by
  conv_lhs => rw [← h]
  exact Prog.bind_assoc _ _ _

set_option maxRecDepth 100000 in
set_option maxHeartbeats 0 in
/-- So it does. -/
theorem part417_fix (i : grid0.Coords) (arg1 : Memref sig .tc .smem S16x3 .f32) (harg1 : arg1.IsWhole) (arg2 : Memref
  sig .tc .smem S16 .f32) (harg2 : arg2.IsWhole) (arg3 : Memref sig .tc .smem S16 .f32) (harg3 : arg3.IsWhole) (arg4 :
  Memref sig .tc .vmem S16x128 .f32) (harg4 : arg4.IsWhole) (arg5 : Memref sig .tc .vmem S16x128 .f32) (harg5 :
  arg5.IsWhole) (arg6 : Memref sig .tc .vmem S16x128 .f32) (harg6 : arg6.IsWhole) (arg7 : Memref sig .tc .vmem S16x128
  .f32) (harg7 : arg7.IsWhole) (arg8 : Memref sig .tc .vmem S16x128 .f32) (harg8 : arg8.IsWhole) (arg9 : Memref sig
  .tc .vmem S16x128 .f32) (harg9 : arg9.IsWhole) (arg10 : Memref sig .tc .vmem S16x128 .f32) (harg10 : arg10.IsWhole)
  (arg11 : Memref sig .tc .vmem S16x128 .f32) (harg11 : arg11.IsWhole) (arg12 : Memref sig .tc .vmem S16x128 .f32)
  (harg12 : arg12.IsWhole) (arg13 : Memref sig .tc .vmem S16x128 .f32) (harg13 : arg13.IsWhole) (arg14 : Memref sig
  .tc .vmem S16x128 .f32) (harg14 : arg14.IsWhole) (arg15 : Memref sig .tc .vmem S16x128 .f32) (harg15 :
  arg15.IsWhole) (arg16 : Memref sig .tc .vmem S16x128 .f32) (harg16 : arg16.IsWhole) (arg17 : Memref sig .tc .vmem
  S16x128 .f32) (harg17 : arg17.IsWhole) :
    (k0_part417 (F := F) i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 >>= fun x => pure (fix x)) = k0_part417 (F := F) i arg1 harg1 arg2 harg2 arg3 harg3 arg4 harg4 arg5 harg5
      arg6 harg6 arg7 harg7 arg8 harg8 arg9 harg9 arg10 harg10 arg11 harg11 arg12 harg12 arg13 harg13 arg14 harg14
      arg15 harg15 arg16 harg16 arg17 harg17 := by
  unfold k0_part417
  rfl

set_option maxRecDepth 100000 in
set_option maxHeartbeats 0 in
/-- The body is the printed one with a hundred bounces for its loop. -/
theorem body_eq (i : grid0.Coords) (arg1 : Memref sig .tc .smem S16x3 .f32) (harg1 : arg1.IsWhole) (arg2 : Memref sig
  .tc .smem S16 .f32) (harg2 : arg2.IsWhole) (arg3 : Memref sig .tc .smem S16 .f32) (harg3 : arg3.IsWhole) (arg4 :
  Memref sig .tc .vmem S16x128 .f32) (harg4 : arg4.IsWhole) (arg5 : Memref sig .tc .vmem S16x128 .f32) (harg5 :
  arg5.IsWhole) (arg6 : Memref sig .tc .vmem S16x128 .f32) (harg6 : arg6.IsWhole) (arg7 : Memref sig .tc .vmem S16x128
  .f32) (harg7 : arg7.IsWhole) (arg8 : Memref sig .tc .vmem S16x128 .f32) (harg8 : arg8.IsWhole) (arg9 : Memref sig
  .tc .vmem S16x128 .f32) (harg9 : arg9.IsWhole) (arg10 : Memref sig .tc .vmem S16x128 .f32) (harg10 : arg10.IsWhole)
  (arg11 : Memref sig .tc .vmem S16x128 .f32) (harg11 : arg11.IsWhole) (arg12 : Memref sig .tc .vmem S16x128 .f32)
  (harg12 : arg12.IsWhole) (arg13 : Memref sig .tc .vmem S16x128 .f32) (harg13 : arg13.IsWhole) (arg14 : Memref sig
  .tc .vmem S16x128 .f32) (harg14 : arg14.IsWhole) (arg15 : Memref sig .tc .vmem S16x128 .f32) (harg15 :
  arg15.IsWhole) (arg16 : Memref sig .tc .vmem S16x128 .f32) (harg16 : arg16.IsWhole) (arg17 : Memref sig .tc .vmem
  S16x128 .f32) (harg17 : arg17.IsWhole) :
    cc0__body (F := F) i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 =
      withLoop (F := F) looped i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 := by
  unfold cc0__body withLoop
  refine bind_congr fun x1 => ?_
  refine bind_congr fun x2 => ?_
  refine bind_congr fun x3 => ?_
  refine bind_congr fun x4 => ?_
  refine bind_congr fun x5 => ?_
  refine bind_congr fun x6 => ?_
  refine (bind_fix (part417_fix i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17) _).trans (bind_congr fun x7 => ?_)
  refine bind_of_eq (a := looped x1 x2 x3 x4 x5 x6 x7) ?_ rfl
  obtain ⟨v3, v7, v11, v19, v28, v29, v30, v32, v34⟩ := x1
  obtain ⟨v36, v39, v40, v42, v44, v46, v49, v50, v52, v54, v56, v59, v60⟩ := x2
  obtain ⟨v62, v64, v66, v69, v70, v72, v74, v76, v79, v80, v82, v84, v86⟩ := x3
  obtain ⟨v89, v90, v92, v94, v96, v99, v100, v102, v104, v106, v109, v110, v112⟩ := x4
  obtain ⟨v114, v116, v119, v120, v122, v124, v126, v129, v130, v132, v134, v136, v138, cst_147⟩ := x5
  obtain ⟨v139, v140, v142, v144, v146, v149, v150, v152, v154, v156, v159, v160, v162, v164⟩ := x6
  obtain ⟨v166, v169, v170, v172, v174, v176, v179, v180, v182, v184, v186, v189, v190, cst_209, c0_i32⟩ := x7
  let σ : Scene F := scene ⟨v3, v7, v11, v19, v28, v29, v30, v32, v34⟩ ⟨v36, v39, v40, v42, v44, v46, v49, v50, v52,
    v54, v56, v59, v60⟩ ⟨v62, v64, v66, v69, v70, v72, v74, v76, v79, v80, v82, v84, v86⟩ ⟨v89, v90, v92, v94, v96,
    v99, v100, v102, v104, v106, v109, v110, v112⟩ ⟨v114, v116, v119, v120, v122, v124, v126, v129, v130, v132, v134,
    v136, v138, cst_147⟩ ⟨v139, v140, v142, v144, v146, v149, v150, v152, v154, v156, v159, v160, v162, v164⟩ ⟨v166,
    v169, v170, v172, v174, v176, v179, v180, v182, v184, v186, v189, v190, cst_209, c0_i32⟩
  refine (loop_pure _ _ _ _ (fun a => planes ((bounce σ)^[25] (unplanes a))) ?_).trans ?_
  · rintro k ⟨a, b, c, d, e, f, g⟩
    obtain ⟨Y1, h1⟩ : ∃ Y, bounce σ (bounce σ (bounce σ ⟨a, b, c, d, e, f, g⟩)) = Y := ⟨_, rfl⟩
    refine bind_of_eq (part404 (σ := σ) (X := ⟨a, b, c, d, e, f, g⟩) (hY := h1) ..) ?_
    obtain ⟨Y2, h2⟩ : ∃ Y, bounce σ (bounce σ (bounce σ (bounce σ Y1))) = Y := ⟨_, rfl⟩
    refine bind_of_eq (part405 (σ := σ) (X := Y1) (hY := h2) ..) ?_
    obtain ⟨Y3, h3⟩ : ∃ Y, bounce σ (bounce σ (bounce σ (bounce σ Y2))) = Y := ⟨_, rfl⟩
    refine bind_of_eq (part406 (σ := σ) (X := Y2) (hY := h3) ..) ?_
    obtain ⟨Y4, h4⟩ : ∃ Y, bounce σ (bounce σ (bounce σ Y3)) = Y := ⟨_, rfl⟩
    refine bind_of_eq (part407 (σ := σ) (X := Y3) (hY := h4) ..) ?_
    obtain ⟨Y5, h5⟩ : ∃ Y, bounce σ (bounce σ (bounce σ (bounce σ Y4))) = Y := ⟨_, rfl⟩
    refine bind_of_eq (part408 (σ := σ) (X := Y4) (hY := h5) ..) ?_
    obtain ⟨Y6, h6⟩ : ∃ Y, bounce σ (bounce σ (bounce σ (bounce σ Y5))) = Y := ⟨_, rfl⟩
    refine bind_of_eq (part409 (σ := σ) (X := Y5) (hY := h6) ..) ?_
    obtain ⟨Y7, h7⟩ : ∃ Y, bounce σ (bounce σ Y6) = Y := ⟨_, rfl⟩
    refine bind_of_eq (part410 (σ := σ) (X := Y6) (hY := h7) ..) ?_
    have h : (bounce σ)^[25] (unplanes (a, b, c, d, e, f, g)) = bounce σ Y7 := by
      simp only [← h7, ← h6, ← h5, ← h4, ← h3, ← h2, ← h1, Function.iterate_succ, Function.iterate_zero, Function.comp_apply,
        id_eq, unplanes]
    rw [h]
    rfl
  · refine congrArg Prog.ret ((iterate_planes ((bounce σ)^[25]) 4 ⟨v3, v7, v11, v28, v29, v30, v19⟩).trans ?_)
    rw [← Function.iterate_mul]
    rfl

end Cert.Proof.Ideal

end
-- ==== Proof.Triple.lean ====
/-
  The body's triple: on whole staging memrefs it loads the input windows' blocks, runs to its end whatever value
    stands for
  its loop, and leaves in each output window's block one plane of what the loop returns. The values the parts before
    the
  loop return are stated from the blocks.
-/
module

public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Tactic
public import proofs.«01_k».proof.Proof.Body

@[expose] public section

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the parts before the loop return, from the input windows' blocks -/

/-- The whole block, as the body loads and stores it. -/
abbrev rp : Rect S16x128 := Rect.unit (s := S16x128) ![0, 0] S16x128.size inb_S16x128_S16x128_0_0

/-- The word of the centers' table at row `a`, column `b`. -/
abbrev w2 (a b : ℕ) (h : ∀ d, (![a, b] : Fin 2 → ℕ) d + S1x1.size d ≤ S16x3.size d) : S16x3.Idx :=
  (Rect.unit (s := S16x3) ![a, b] S1x1.size h).idx (Shape.Idx.first (numel1_S1x1.symm ▸ Nat.one_pos))

/-- The word of a table of sixteen at row `a`. -/
abbrev w1 (a : ℕ) (h : ∀ d, (![a] : Fin 1 → ℕ) d + S1.size d ≤ S16.size d) : S16.Idx :=
  (Rect.unit (s := S16) ![a] S1.size h).idx (Shape.Idx.first (numel1_S1.symm ▸ Nat.one_pos))

/-- A plane of the block, as the body reads it. -/
def plane (x : Vec F S16x128 .f32) : FVec F S16x128 .f32 :=
  shapeCast S16x128 (fun i => x (rp.idx i)) shapeCasts_S16x128_S16x128

/-- A position plane, scaled by five. -/
def scaled (x : Vec F S16x128 .f32) : FVec F S16x128 .f32 :=
  mulf (plane x) (broadcast S16x128 (Scalar.ofBits .f32 0x40A00000#32))

/-- A direction plane over the directions' norm (and a small constant). -/
def unit (x x6 x7 x8 : Vec F S16x128 .f32) : FVec F S16x128 .f32 :=
  divf (plane x) (addf (sqrt (addf (addf (mulf (plane x6) (plane x6)) (mulf (plane x8) (plane x8)))
    (mulf (plane x7) (plane x7)))) (broadcast S16x128 (Scalar.ofBits .f32 0x2B8CBCCC#32)))

/-- A coordinate of a center, scaled by ten. -/
def center (x : Vec F S16x3 .f32) (j : S16x3.Idx) : F .f32 := Scalar.mulf (x j) (Scalar.ofBits .f32 0x41200000#32)

/-- A radius scaled by four, -/
def radius0 (x : Vec F S16 .f32) (j : S16.Idx) : F .f32 := Scalar.mulf (x j) (Scalar.ofBits .f32 0x40800000#32)

/-- and one more. -/
def radius (x : Vec F S16 .f32) (j : S16.Idx) : F .f32 := Scalar.addf (radius0 x j) (Scalar.ofBits .f32 0x3F800000#32)

/-- A word of a table. -/
def word (x : Vec F S16 .f32) (j : S16.Idx) : F .f32 := x j

/-- What part 411 returns. -/
def ret1 (x0 : Vec F S16x3 .f32) (x1 x2 : Vec F S16 .f32) (x3 x4 x5 x6 x7 x8 x9 : Vec F S16x128 .f32) : P1 F :=
  ⟨scaled x3, scaled x4, scaled x5, plane x9, unit x6 x6 x7 x8, unit x7 x6 x7 x8, unit x8 x6 x7 x8, center x0 (w2 0 0
    inb_S16x3_S1x1_0_0), center x0 (w2 0 1 inb_S16x3_S1x1_0_1)⟩

/-- What part 412 returns. -/
def ret2 (x0 : Vec F S16x3 .f32) (x1 x2 : Vec F S16 .f32) : P2 F :=
  ⟨center x0 (w2 0 2 inb_S16x3_S1x1_0_2), radius x1 (w1 0 inb_S16_S1_0), word x2 (w1 0 inb_S16_S1_0), center x0 (w2 1
    0 inb_S16x3_S1x1_1_0), center x0 (w2 1 1 inb_S16x3_S1x1_1_1), center x0 (w2 1 2 inb_S16x3_S1x1_1_2), radius x1 (w1
    1 inb_S16_S1_1), word x2 (w1 1 inb_S16_S1_1), center x0 (w2 2 0 inb_S16x3_S1x1_2_0), center x0 (w2 2 1
    inb_S16x3_S1x1_2_1), center x0 (w2 2 2 inb_S16x3_S1x1_2_2), radius x1 (w1 2 inb_S16_S1_2), word x2 (w1 2
    inb_S16_S1_2)⟩

/-- What part 413 returns. -/
def ret3 (x0 : Vec F S16x3 .f32) (x1 x2 : Vec F S16 .f32) : P3 F :=
  ⟨center x0 (w2 3 0 inb_S16x3_S1x1_3_0), center x0 (w2 3 1 inb_S16x3_S1x1_3_1), center x0 (w2 3 2
    inb_S16x3_S1x1_3_2), radius x1 (w1 3 inb_S16_S1_3), word x2 (w1 3 inb_S16_S1_3), center x0 (w2 4 0
    inb_S16x3_S1x1_4_0), center x0 (w2 4 1 inb_S16x3_S1x1_4_1), center x0 (w2 4 2 inb_S16x3_S1x1_4_2), radius x1 (w1 4
    inb_S16_S1_4), word x2 (w1 4 inb_S16_S1_4), center x0 (w2 5 0 inb_S16x3_S1x1_5_0), center x0 (w2 5 1
    inb_S16x3_S1x1_5_1), center x0 (w2 5 2 inb_S16x3_S1x1_5_2)⟩

/-- What part 414 returns. -/
def ret4 (x0 : Vec F S16x3 .f32) (x1 x2 : Vec F S16 .f32) : P4 F :=
  ⟨radius x1 (w1 5 inb_S16_S1_5), word x2 (w1 5 inb_S16_S1_5), center x0 (w2 6 0 inb_S16x3_S1x1_6_0), center x0 (w2 6
    1 inb_S16x3_S1x1_6_1), center x0 (w2 6 2 inb_S16x3_S1x1_6_2), radius x1 (w1 6 inb_S16_S1_6), word x2 (w1 6
    inb_S16_S1_6), center x0 (w2 7 0 inb_S16x3_S1x1_7_0), center x0 (w2 7 1 inb_S16x3_S1x1_7_1), center x0 (w2 7 2
    inb_S16x3_S1x1_7_2), radius x1 (w1 7 inb_S16_S1_7), word x2 (w1 7 inb_S16_S1_7), center x0 (w2 8 0
    inb_S16x3_S1x1_8_0)⟩

/-- What part 415 returns. -/
def ret5 (x0 : Vec F S16x3 .f32) (x1 x2 : Vec F S16 .f32) : P5 F :=
  ⟨center x0 (w2 8 1 inb_S16x3_S1x1_8_1), center x0 (w2 8 2 inb_S16x3_S1x1_8_2), radius x1 (w1 8 inb_S16_S1_8), word
    x2 (w1 8 inb_S16_S1_8), center x0 (w2 9 0 inb_S16x3_S1x1_9_0), center x0 (w2 9 1 inb_S16x3_S1x1_9_1), center x0
    (w2 9 2 inb_S16x3_S1x1_9_2), radius x1 (w1 9 inb_S16_S1_9), word x2 (w1 9 inb_S16_S1_9), center x0 (w2 10 0
    inb_S16x3_S1x1_10_0), center x0 (w2 10 1 inb_S16x3_S1x1_10_1), center x0 (w2 10 2 inb_S16x3_S1x1_10_2), radius0 x1
    (w1 10 inb_S16_S1_10), Scalar.ofBits .f32 0x3F800000#32⟩

/-- What part 416 returns. -/
def ret6 (x0 : Vec F S16x3 .f32) (x1 x2 : Vec F S16 .f32) : P6 F :=
  ⟨radius x1 (w1 10 inb_S16_S1_10), word x2 (w1 10 inb_S16_S1_10), center x0 (w2 11 0 inb_S16x3_S1x1_11_0), center x0
    (w2 11 1 inb_S16x3_S1x1_11_1), center x0 (w2 11 2 inb_S16x3_S1x1_11_2), radius x1 (w1 11 inb_S16_S1_11), word x2
    (w1 11 inb_S16_S1_11), center x0 (w2 12 0 inb_S16x3_S1x1_12_0), center x0 (w2 12 1 inb_S16x3_S1x1_12_1), center x0
    (w2 12 2 inb_S16x3_S1x1_12_2), radius x1 (w1 12 inb_S16_S1_12), word x2 (w1 12 inb_S16_S1_12), center x0 (w2 13 0
    inb_S16x3_S1x1_13_0), center x0 (w2 13 1 inb_S16x3_S1x1_13_1)⟩

/-- What part 417 returns. -/
def ret7 (x0 : Vec F S16x3 .f32) (x1 x2 : Vec F S16 .f32) : P7 F :=
  ⟨center x0 (w2 13 2 inb_S16x3_S1x1_13_2), radius x1 (w1 13 inb_S16_S1_13), word x2 (w1 13 inb_S16_S1_13), center x0
    (w2 14 0 inb_S16x3_S1x1_14_0), center x0 (w2 14 1 inb_S16x3_S1x1_14_1), center x0 (w2 14 2 inb_S16x3_S1x1_14_2),
    radius x1 (w1 14 inb_S16_S1_14), word x2 (w1 14 inb_S16_S1_14), center x0 (w2 15 0 inb_S16x3_S1x1_15_0), center x0
    (w2 15 1 inb_S16x3_S1x1_15_1), center x0 (w2 15 2 inb_S16x3_S1x1_15_2), radius x1 (w1 15 inb_S16_S1_15), word x2
    (w1 15 inb_S16_S1_15), Scalar.ofBits .f32 0x7F800000#32, 0#32⟩

/-- What the loop returns. -/
def outs (L : P1 F → P2 F → P3 F → P4 F → P5 F → P6 F → P7 F → Carry F)
    (x0 : Vec F S16x3 .f32) (x1 x2 : Vec F S16 .f32)
    (x3 x4 x5 x6 x7 x8 x9 : Vec F S16x128 .f32) : Carry F :=
  L (ret1 x0 x1 x2 x3 x4 x5 x6 x7 x8 x9) (ret2 x0 x1 x2) (ret3 x0 x1 x2) (ret4 x0 x1 x2) (ret5 x0 x1 x2)
    (ret6 x0 x1 x2) (ret7 x0 x1 x2)

/-- A block after the body stored the plane `p` in it. -/
def stored (p : FVec F S16x128 .f32) : Vec F S16x128 .f32 := View.canon [⟨rp, p⟩]

/-- The one store covers the block. -/
theorem cover (p : Vec F S16x128 .f32) (y : S16x128.Idx) :
    ∃ pc ∈ ([⟨rp, p⟩] : List (View.Piece (Elt F) S16x128 .f32)), y ∈ pc.1.set :=
  View.cover_of_tiled [⟨rp, p⟩] S16x128.size (by rfl) y

/-! ## The body's triple -/

set_option maxRecDepth 100000 in
set_option maxHeartbeats 0 in
/-- The body on whole staging memrefs, the inputs' at contents `xW` and the outputs' at anything, whatever value `L`
  stands for
    its loop: it runs to the continuation holding the inputs' as they were and each output's at what the loop returns.
      -/
theorem sound_kernel (L : P1 F → P2 F → P3 F → P4 F → P5 F → P6 F → P7 F → Carry F) (c : Dev nD) (E : Set ℕ)
    (i : grid0.Coords) (arg1 : Memref sig .tc .smem S16x3 .f32) (harg1 : arg1.IsWhole) (arg2 : Memref sig .tc .smem
      S16 .f32) (harg2 : arg2.IsWhole) (arg3 : Memref sig .tc .smem S16 .f32) (harg3 : arg3.IsWhole) (arg4 : Memref
      sig .tc .vmem S16x128 .f32) (harg4 : arg4.IsWhole) (arg5 : Memref sig .tc .vmem S16x128 .f32) (harg5 :
      arg5.IsWhole) (arg6 : Memref sig .tc .vmem S16x128 .f32) (harg6 : arg6.IsWhole) (arg7 : Memref sig .tc .vmem
      S16x128 .f32) (harg7 : arg7.IsWhole) (arg8 : Memref sig .tc .vmem S16x128 .f32) (harg8 : arg8.IsWhole) (arg9 :
      Memref sig .tc .vmem S16x128 .f32) (harg9 : arg9.IsWhole) (arg10 : Memref sig .tc .vmem S16x128 .f32) (harg10 :
      arg10.IsWhole) (arg11 : Memref sig .tc .vmem S16x128 .f32) (harg11 : arg11.IsWhole) (arg12 : Memref sig .tc
      .vmem S16x128 .f32) (harg12 : arg12.IsWhole) (arg13 : Memref sig .tc .vmem S16x128 .f32) (harg13 :
      arg13.IsWhole) (arg14 : Memref sig .tc .vmem S16x128 .f32) (harg14 : arg14.IsWhole) (arg15 : Memref sig .tc
      .vmem S16x128 .f32) (harg15 : arg15.IsWhole) (arg16 : Memref sig .tc .vmem S16x128 .f32) (harg16 :
      arg16.IsWhole) (arg17 : Memref sig .tc .vmem S16x128 .f32) (harg17 : arg17.IsWhole)
    (x0 : Vec F S16x3 .f32) (x1 x2 : Vec F S16 .f32) (x3 x4 x5 x6 x7 x8 x9 : Vec F S16x128 .f32)
    (K : PUnit → sProp 𝕄) :
    iprop(owns (c : Thread nD τ) arg1 fullShare x0 ∗ owns (c : Thread nD τ) arg2 fullShare x1 ∗ owns (c : Thread nD τ)
      arg3 fullShare x2 ∗ owns (c : Thread nD τ) arg4 fullShare x3 ∗ owns (c : Thread nD τ) arg5 fullShare x4 ∗ owns
      (c : Thread nD τ) arg6 fullShare x5 ∗ owns (c : Thread nD τ) arg7 fullShare x6 ∗ owns (c : Thread nD τ) arg8
      fullShare x7 ∗ owns (c : Thread nD τ) arg9 fullShare x8 ∗ owns (c : Thread nD τ) arg10 fullShare x9 ∗ (∃ d, owns
      (c : Thread nD τ) arg11 fullShare d) ∗ (∃ d, owns (c : Thread nD τ) arg12 fullShare d) ∗ (∃ d, owns (c : Thread
      nD τ) arg13 fullShare d) ∗ (∃ d, owns (c : Thread nD τ) arg14 fullShare d) ∗ (∃ d, owns (c : Thread nD τ) arg15
      fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c :
          Thread nD τ) arg3 fullShare x2 ∗ owns (c : Thread nD τ) arg4 fullShare x3 ∗ owns (c : Thread nD τ) arg5
          fullShare x4 ∗ owns (c : Thread nD τ) arg6 fullShare x5 ∗ owns (c : Thread nD τ) arg7 fullShare x6 ∗ owns (c
          : Thread nD τ) arg8 fullShare x7 ∗ owns (c : Thread nD τ) arg9 fullShare x8 ∗ owns (c : Thread nD τ) arg10
          fullShare x9 ∗ owns (c : Thread nD τ) arg11 fullShare (stored (outs L x0 x1 x2 x3 x4 x5 x6 x7 x8 x9).1) ∗
          owns (c : Thread nD τ) arg12 fullShare (stored (outs L x0 x1 x2 x3 x4 x5 x6 x7 x8 x9).2.1) ∗ owns (c :
          Thread nD τ) arg13 fullShare (stored (outs L x0 x1 x2 x3 x4 x5 x6 x7 x8 x9).2.2.1) ∗ owns (c : Thread nD τ)
          arg14 fullShare (stored (outs L x0 x1 x2 x3 x4 x5 x6 x7 x8 x9).2.2.2.1) ∗ owns (c : Thread nD τ) arg15
          fullShare (stored (outs L x0 x1 x2 x3 x4 x5 x6 x7 x8 x9).2.2.2.2.1) ∗ owns (c : Thread nD τ) arg16 fullShare
          (stored (outs L x0 x1 x2 x3 x4 x5 x6 x7 x8 x9).2.2.2.2.2.1) ∗ owns (c : Thread nD τ) arg17 fullShare (stored
          (outs L x0 x1 x2 x3 x4 x5 x6 x7 x8 x9).2.2.2.2.2.2)) -∗ K ⟨⟩))
      ⊢ wp frame (wpE (defs₀ (F := F)) Variants.none c none) E (withLoop (F := F) L i arg1 harg1 arg2 harg2 arg3 harg3
        arg4 harg4 arg5 harg5 arg6 harg6 arg7 harg7 arg8 harg8 arg9 harg9 arg10 harg10 arg11 harg11 arg12 harg12 arg13
        harg13 arg14 harg14 arg15 harg15 arg16 harg16 arg17 harg17) K := by
  unfold withLoop owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
    %hf6, H6⟩, ⟨%f7, %hf7, H7⟩, ⟨%f8, %hf8, H8⟩, ⟨%f9, %hf9, H9⟩, ⟨%d10, %f10, -, H10⟩, ⟨%d11, %f11, -, H11⟩, ⟨%d12,
    %f12, -, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover (F := F) _)).trans ?_
    rfl
  isplitl [H11]
  · iexists _; isplitr
    swap; · iexact H11
    ipureintro
    refine (View.read_writes_eq_canon _ _ _ (cover (F := F) _)).trans ?_
    rfl
  isplitl [H12]
  · iexists _; isplitr
    swap; · iexact H12
    ipureintro
    refine (View.read_writes_eq_canon _ _ _ (cover (F := F) _)).trans ?_
    rfl
  isplitl [H13]
  · iexists _; isplitr
    swap; · iexact H13
    ipureintro
    refine (View.read_writes_eq_canon _ _ _ (cover (F := F) _)).trans ?_
    rfl
  isplitl [H14]
  · iexists _; isplitr
    swap; · iexact H14
    ipureintro
    refine (View.read_writes_eq_canon _ _ _ (cover (F := F) _)).trans ?_
    rfl
  isplitl [H15]
  · iexists _; isplitr
    swap; · iexact H15
    ipureintro
    refine (View.read_writes_eq_canon _ _ _ (cover (F := F) _)).trans ?_
    rfl
  iexists _; isplitr
  swap; · iexact H16
  ipureintro
  refine (View.read_writes_eq_canon _ _ _ (cover (F := F) _)).trans ?_
  rfl

end Cert.Proof.Ideal

end
-- ==== Proof.Frame.lean ====
/-
  The frame: the proof data of the pipeline (each output block at what the loop returns of the input blocks), the
    body's
  obligation at every point, the run of the whole program, and the frame claim read from it.
-/
module

public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Quiescent
public import Idealize.ShloMosaic.Lib.Tactic
public import proofs.«01_k».proof.Proof.Triple

@[expose] public section

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The value of the loop: a hundred bounces. -/
def Lv (t : Fin cfg0.N) : P1 F → P2 F → P3 F → P4 F → P5 F → P6 F → P7 F → Carry F := looped

/-- The body at a point is the printed one with `Lv` for its loop. -/
theorem bodyAt_lv (t : Fin cfg0.N) : bodyAt0 (F := F) t =
    withLoop (F := F) (Lv t) (grid0.coords t) (win0_0.stage (cfg0.slots t 0)) (hstage0_0 ((cfg0.slots t 0).cast
      nbuf0_0)) (win0_1.stage (cfg0.slots t 1)) (hstage0_1 ((cfg0.slots t 1).cast nbuf0_1)) (win0_2.stage (cfg0.slots
      t 2)) (hstage0_2 ((cfg0.slots t 2).cast nbuf0_2)) (win0_3.stage (cfg0.slots t 3)) (hstage0_3 ((cfg0.slots t
      3).cast nbuf0_3)) (win0_4.stage (cfg0.slots t 4)) (hstage0_4 ((cfg0.slots t 4).cast nbuf0_4)) (win0_5.stage
      (cfg0.slots t 5)) (hstage0_5 ((cfg0.slots t 5).cast nbuf0_5)) (win0_6.stage (cfg0.slots t 6)) (hstage0_6
      ((cfg0.slots t 6).cast nbuf0_6)) (win0_7.stage (cfg0.slots t 7)) (hstage0_7 ((cfg0.slots t 7).cast nbuf0_7))
      (win0_8.stage (cfg0.slots t 8)) (hstage0_8 ((cfg0.slots t 8).cast nbuf0_8)) (win0_9.stage (cfg0.slots t 9))
      (hstage0_9 ((cfg0.slots t 9).cast nbuf0_9)) (win0_10.stage (cfg0.slots t 10)) (hstage0_10 ((cfg0.slots t
      10).cast nbuf0_10)) (win0_11.stage (cfg0.slots t 11)) (hstage0_11 ((cfg0.slots t 11).cast nbuf0_11))
      (win0_12.stage (cfg0.slots t 12)) (hstage0_12 ((cfg0.slots t 12).cast nbuf0_12)) (win0_13.stage (cfg0.slots t
      13)) (hstage0_13 ((cfg0.slots t 13).cast nbuf0_13)) (win0_14.stage (cfg0.slots t 14)) (hstage0_14 ((cfg0.slots t
      14).cast nbuf0_14)) (win0_15.stage (cfg0.slots t 15)) (hstage0_15 ((cfg0.slots t 15).cast nbuf0_15))
      (win0_16.stage (cfg0.slots t 16)) (hstage0_16 ((cfg0.slots t 16).cast nbuf0_16)) :=
  body_eq _ _ _ _ _ _ _ _ _ _ _ _ _ _ _ _ _ _ _ _ _ _ _ _ _ _ _ _ _ _ _ _ _ _ _

variable (m : (ℓ : Loc nD τ sig) → Buf (Elt F) ℓ) (ρ : Dev nD → PrngReg)

/-- What the loop returns at point `t`, from the input windows' blocks. -/
def outAt (c : Dev nD) (t : Fin cfg0.N) : Carry F :=
  outs (Lv t) (iblk m c 0 t) (iblk m c 1 t) (iblk m c 2 t) (iblk m c 3 t) (iblk m c 4 t) (iblk m c 5 t) (iblk m c 6 t)
    (iblk m c 7 t) (iblk m c 8 t) (iblk m c 9 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => stored ((outAt m c t).1)
    | ⟨11, _⟩ => stored ((outAt m c t).2.1)
    | ⟨12, _⟩ => stored ((outAt m c t).2.2.1)
    | ⟨13, _⟩ => stored ((outAt m c t).2.2.2.1)
    | ⟨14, _⟩ => stored ((outAt m c t).2.2.2.2.1)
    | ⟨15, _⟩ => stored ((outAt m c t).2.2.2.2.2.1)
    | ⟨16, _⟩ => stored ((outAt m c t).2.2.2.2.2.2)
    | ⟨_ + 17, h⟩ => absurd h (Nat.not_lt.2 (Nat.le_add_left _ _))
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-! What the body leaves, window by window, and what each input window holds before it. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = stored ((outAt m c t).1) := by dsimp only
  [dats]
theorem after_11 (c : Dev nD) (t : Fin cfg0.N) : (dats m 0 c).after 11 t = stored ((outAt m c t).2.1) := by dsimp only
  [dats]
theorem after_12 (c : Dev nD) (t : Fin cfg0.N) : (dats m 0 c).after 12 t = stored ((outAt m c t).2.2.1) := by dsimp
  only [dats]
theorem after_13 (c : Dev nD) (t : Fin cfg0.N) : (dats m 0 c).after 13 t = stored ((outAt m c t).2.2.2.1) := by dsimp
  only [dats]
theorem after_14 (c : Dev nD) (t : Fin cfg0.N) : (dats m 0 c).after 14 t = stored ((outAt m c t).2.2.2.2.1) := by
  dsimp only [dats]
theorem after_15 (c : Dev nD) (t : Fin cfg0.N) : (dats m 0 c).after 15 t = stored ((outAt m c t).2.2.2.2.2.1) := by
  dsimp only [dats]
theorem after_16 (c : Dev nD) (t : Fin cfg0.N) : (dats m 0 c).after 16 t = stored ((outAt m c t).2.2.2.2.2.2) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c
      t) := by
  unfold bodyPre bodyPost
  rw [bodyAt_lv]
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11,
      after_12, after_13, after_14, after_15, after_16]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel (Lv t) c Set.univ (grid0.coords t) _ _ _ _ _ _ _ _ _ _ _ _ _ _ _ _ _ _ _ _ _ _ _ _ _ _ _ _ _ _
    _ _ _ _ (iblk m c 0 t) (iblk m c 1 t) (iblk m c 2 t) (iblk m c 3 t) (iblk m c 4 t) (iblk m c 5 t) (iblk m c 6 t)
    (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's row of the program's definitions is the printed body at the point. -/
theorem defs₀_row (t : Fin cfg0.N) : defs₀ (F := F) .tc cfg0.body (cfg0.bodyArgs t (cfg0.slots t)) = bodyAt0 t := by
  unfold defs₀
  rw [Defs.onTc_tc]

/-- The body's obligation at every point. -/
theorem body_obligation (c : Dev nD) : BodyObligation (dats (F := F) m 0 c) (defs₀ (F := F)) Variants.none () Set.univ
  :=
  fun t => by
    rw [bigSep_W0, bigSep_W0, defs₀_row]
    exact triple_restated (sound_body m c t) rfl .rfl fun _ => .rfl

set_option backward.isDefEq.respectTransparency.types false in
set_option maxHeartbeats 4000000 in
/-- Every execution ends, with every array of the pipeline at what the library computes from the proof data, every
  other
    unscoped buffer at what the host lines after the region leave, and every semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ =>
      0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep :=
      sfx_keeps)
    (hmain := hmain m Variants.none) (hA := A_eq m) (hΦ := fun _ _ => rfl) (Q' := _)
    (hQ' := fun _ h => h)

/-- The frame: the six arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0)
        :=
  θ_run_with_sems (frame_of m ρ (dats m) (A_eq m)) (run_main m ρ)

end Cert.Proof.Ideal

end
-- ==== Proof.Ray.lean ====
/-
  One ray bouncing among sixteen spheres, in extended reals: the distance to each sphere, the nearest, the first sphere
  at that distance, and the reflection there.
-/
module

public import proofs.«01_k».proof.Proof.Bounce
public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.Ray

open Idealize.ShloMosaic
open Cert.Bounce (Scene)

/-- A ray: position, direction, intensity. -/
structure Ray where
  px : EReal
  py : EReal
  pz : EReal
  dx : EReal
  dy : EReal
  dz : EReal
  it : EReal

/-- The least distance that counts as a hit. -/
def eps : EReal := Ideal.ofBits .f32 0x38D1B717#32
/-- The number two, as the programs write it. -/
def two : EReal := Ideal.ofBits .f32 0x40000000#32

variable (σ : Scene Ideal) (X : Ray) (s : Fin 16)

/-- The offset from the centre of sphere `s`, along the direction. -/
def b : EReal := (X.px - σ.cx s) * X.dx + (X.py - σ.cy s) * X.dy + (X.pz - σ.cz s) * X.dz
/-- The squared distance from the centre. -/
def cc : EReal :=
  (X.px - σ.cx s) * (X.px - σ.cx s) + (X.py - σ.cy s) * (X.py - σ.cy s) + (X.pz - σ.cz s) * (X.pz - σ.cz s)
/-- The discriminant of the quadratic equation for the distance. -/
def disc : EReal := b σ X s * b σ X s - (cc σ X s - σ.r s * σ.r s)
/-- Its root, where there is one. -/
def root : EReal := Ideal.sqrt (if 0 < disc σ X s then disc σ X s else 1)
/-- One of the two solutions, if it is a hit. -/
def cand (t : EReal) : EReal := if 0 < disc σ X s ∧ eps < t then t else ⊤
/-- The distance to sphere `s`, `⊤` where the ray misses it. -/
def time : EReal := min (cand σ X s (-b σ X s - root σ X s)) (cand σ X s (-b σ X s + root σ X s))
/-- The distance to the nearest sphere. -/
def near : EReal := Finset.univ.fold min ⊤ (time σ X)
/-- Sphere `k` is the first of those at distance `m`, and none is nearer. -/
def IsFirst (m : EReal) (k : Fin 16) : Prop := time σ X k = m ∧ ∀ j < k, m < time σ X j
/-- The first sphere at the nearest distance. -/
def first : Fin 16 := Classical.epsilon (IsFirst σ X (near σ X))

/-- One coordinate of the point at distance `m`. -/
def along (p d m : EReal) : EReal := p + m * d
/-- The ray after hitting sphere `k` at distance `m`. -/
def reflect (m : EReal) (k : Fin 16) : Ray :=
  let hx := along X.px X.dx m
  let hy := along X.py X.dy m
  let hz := along X.pz X.dz m
  let nx := Ideal.div (hx - σ.cx k) (σ.r k)
  let ny := Ideal.div (hy - σ.cy k) (σ.r k)
  let nz := Ideal.div (hz - σ.cz k) (σ.r k)
  let dn := X.dx * nx + X.dy * ny + X.dz * nz
  ⟨hx, hy, hz, X.dx - two * dn * nx, X.dy - two * dn * ny, X.dz - two * dn * nz, X.it * σ.refl k⟩
/-- The ray after one bounce: reflected if it hits and has intensity left, else as it was. -/
def bounce : Ray := open Classical in if near σ X < ⊤ ∧ 0 < X.it then reflect σ X (near σ X) (first σ X) else X

/-! ## The nearest sphere -/

theorem ofBits_top : Ideal.ofBits .f32 0x7F800000#32 = ⊤ := by simp [Ideal.ofBits, Ideal.ieee]

/-- The nearest distance is below every distance. -/
theorem near_le : near σ X ≤ time σ X s :=
  (Finset.le_fold_min (near σ X)).1 le_rfl |>.2 s (Finset.mem_univ s)

/-- A number below every distance and below `⊤` is below the nearest. -/
theorem le_near (m : EReal) (h : ∀ s, m ≤ time σ X s) : m ≤ near σ X :=
  (Finset.le_fold_min m).2 ⟨le_top, fun s _ => h s⟩

/-- The first sphere is unique. -/
theorem IsFirst.unique {m : EReal} {j k : Fin 16} (hj : IsFirst σ X m j) (hk : IsFirst σ X m k) : j = k := by
  rcases lt_trichotomy j k with h | h | h
  · exact absurd (hk.2 j h) (by rw [hj.1]; exact lt_irrefl _)
  · exact h
  · exact absurd (hj.2 k h) (by rw [hk.1]; exact lt_irrefl _)

theorem first_eq {k : Fin 16} (hk : IsFirst σ X (near σ X) k) : first σ X = k :=
  IsFirst.unique σ X (Classical.epsilon_spec ⟨k, hk⟩) hk

/-- There is a first sphere at the nearest distance. -/
theorem first_spec : IsFirst σ X (near σ X) (first σ X) := by
  obtain ⟨i, -, hi⟩ := Finset.exists_min_image Finset.univ (time σ X) ⟨0, Finset.mem_univ _⟩
  have hn : time σ X i = near σ X := le_antisymm (le_near σ X _ fun s => hi s (Finset.mem_univ s)) (near_le σ X i)
  have ne : (Finset.univ.filter fun s => time σ X s = near σ X).Nonempty := ⟨i, by simp [hn]⟩
  refine Classical.epsilon_spec ⟨Finset.min' _ ne, (Finset.mem_filter.1 (Finset.min'_mem _ ne)).2, fun j hj => ?_⟩
  refine lt_of_le_of_ne (near_le σ X j) fun h => absurd hj (not_lt.2 ?_)
  exact Finset.min'_le (Finset.univ.filter fun s => time σ X s = near σ X) j (Finset.mem_filter.2 ⟨Finset.mem_univ j, h.symm⟩)

/-! ## A running minimum with what it is attached to -/

/-- What a running minimum over spheres `a ≤ s < n` must satisfy: no sphere of these is nearer than `m`, and unless `m`
is `⊤` it is the distance of some sphere, the first at it, to which the attached data belong. -/
def Good (a n : ℕ) (m : EReal) (own : Fin 16 → Prop) : Prop :=
  (∀ j : Fin 16, a ≤ j.1 → j.1 < n → m ≤ time σ X j) ∧
  (m = ⊤ ∨ ∃ k : Fin 16, a ≤ k.1 ∧ k.1 < n ∧ time σ X k = m ∧ own k ∧ ∀ j : Fin 16, a ≤ j.1 → j < k → m < time σ X j)

variable {σ X}

theorem Good.start (a : ℕ) (own : Fin 16 → Prop) : Good σ X a a ⊤ own := by
  refine ⟨fun j h h' => absurd h (by omega), .inl rfl⟩

/-- A sphere strictly nearer becomes the minimum. -/
theorem Good.taken {a : ℕ} {m : EReal} {own own' : Fin 16 → Prop} (k : Fin 16) (ha : a ≤ k.1)
    (h : Good σ X a k.1 m own) (hlt : time σ X k < m) (hk : own' k) : Good σ X a (k.1 + 1) (time σ X k) own' := by
  refine ⟨fun j hj hj' => ?_, .inr ⟨k, ha, by omega, rfl, hk, fun j hj hjk => hlt.trans_le (h.1 j hj hjk)⟩⟩
  rcases Nat.lt_succ_iff_lt_or_eq.1 hj' with h' | h'
  · exact hlt.le.trans (h.1 j hj h')
  · exact le_of_eq (congrArg _ (Fin.ext h'.symm))

/-- A sphere not strictly nearer leaves the minimum. -/
theorem Good.kept {a : ℕ} {m : EReal} {own : Fin 16 → Prop} (k : Fin 16)
    (h : Good σ X a k.1 m own) (hle : ¬ time σ X k < m) : Good σ X a (k.1 + 1) m own := by
  refine ⟨fun j hj hj' => ?_, h.2.imp_right fun ⟨i, h1, h2, h3⟩ => ⟨i, h1, by omega, h3⟩⟩
  rcases Nat.lt_succ_iff_lt_or_eq.1 hj' with h' | h'
  · exact h.1 j hj h'
  · rw [Fin.ext (a := j) (b := k) h']; exact not_lt.1 hle

/-- Of two running minima over consecutive ranges, the second wins if strictly nearer. -/
theorem Good.second {a n p : ℕ} {m m' : EReal} {own own' : Fin 16 → Prop} (han : a ≤ n) (h : Good σ X a n m own)
    (h' : Good σ X n p m' own') (hlt : m' < m) : Good σ X a p m' own' := by
  have low : ∀ j : Fin 16, a ≤ j.1 → j.1 < n → m' < time σ X j := fun j hj hj' => hlt.trans_le (h.1 j hj hj')
  refine ⟨fun j hj hj' => ?_, h'.2.imp_right fun ⟨k, h1, h2, h3, h4, h5⟩ => ⟨k, by omega, h2, h3, h4, fun j hj hjk => ?_⟩⟩
  · by_cases hn : j.1 < n
    · exact (low j hj hn).le
    · exact h'.1 j (not_lt.1 hn) hj'
  · by_cases hn : j.1 < n
    · exact low j hj hn
    · exact h5 j (not_lt.1 hn) hjk

/-- Otherwise the first stays. -/
theorem Good.fst {a n p : ℕ} {m m' : EReal} {own own' : Fin 16 → Prop} (hnp : n ≤ p) (h : Good σ X a n m own)
    (h' : Good σ X n p m' own') (hle : ¬ m' < m) : Good σ X a p m own := by
  refine ⟨fun j hj hj' => ?_, h.2.imp_right fun ⟨k, h1, h2, h3⟩ => ⟨k, h1, by omega, h3⟩⟩
  by_cases hn : j.1 < n
  · exact h.1 j hj hn
  · exact (not_lt.1 hle).trans (h'.1 j (not_lt.1 hn) hj')

/-- A running minimum over all sixteen spheres is the nearest distance … -/
theorem Good.near {m : EReal} {own : Fin 16 → Prop} (h : Good σ X 0 16 m own) : near σ X = m := by
  apply le_antisymm
  · rcases h.2 with h | ⟨k, _, _, hk, _⟩
    · rw [h]; exact le_top
    · rw [← hk]; exact near_le σ X k
  · exact le_near σ X m fun s => h.1 s (Nat.zero_le _) s.2

/-- … and, if there is a hit, its data are those of the first sphere at that distance. -/
theorem Good.first {m : EReal} {own : Fin 16 → Prop} (h : Good σ X 0 16 m own) (hm : m < ⊤) : own (first σ X) := by
  rcases h.2 with h' | ⟨k, _, _, hk, ho, hf⟩
  · exact absurd h' hm.ne
  · rw [first_eq σ X (k := k) (by rw [h.near]; exact ⟨hk, fun j hj => hf j (Nat.zero_le _) hj⟩)]; exact ho

/-! ## The two solutions in order -/

theorem sqrt_nonneg {x : EReal} (h : 0 < x) : 0 ≤ Ideal.sqrt x := by
  induction x with
  | bot => exact absurd h (by simp)
  | top => simp
  | coe r =>
    have hr : 0 < r := by exact_mod_cast h
    rw [Ideal.sqrt_coe, if_neg (not_lt.2 hr.le)]
    exact_mod_cast Real.sqrt_nonneg r

/-- The nearer solution that is a hit: the smaller if it is one, else the larger if it is one. -/
theorem time_eq (q : EReal) (hq : 0 < disc σ X s → q = Ideal.sqrt (disc σ X s)) :
    time σ X s = if 0 < disc σ X s ∧ eps < -b σ X s - q then -b σ X s - q
      else if 0 < disc σ X s ∧ eps < -b σ X s + q then -b σ X s + q else ⊤ := by
  by_cases hd : 0 < disc σ X s
  · have hr : root σ X s = q := by rw [root, if_pos hd, hq hd]
    have hle : -b σ X s - q ≤ -b σ X s + q := by
      have h0 := sqrt_nonneg hd
      rw [← hq hd] at h0
      rw [sub_eq_add_neg]
      exact add_le_add_right ((EReal.neg_le_neg_iff.2 h0).trans (by simpa using h0)) _
    simp only [time, cand, hr, hd, true_and]
    by_cases h0 : eps < -b σ X s - q
    · rw [if_pos h0, if_pos (h0.trans_le hle), min_eq_left hle, if_pos h0]
    · rw [if_neg h0, if_neg h0, min_eq_right le_top]
  · simp [time, cand, hd]

end Cert.Ray
-- ==== Proof.RayBlock.lean ====
/-
  A block of rays read one ray at a time: what the block's bounce makes of a ray is that ray's bounce.
-/
module

public import proofs.«01_k».proof.Proof.Ray

@[expose] public section

noncomputable section

namespace Cert.Ray

open Idealize.ShloMosaic
open Cert.Bounce (Scene Rays Blk Best)

/-- The ray at position `j` of a block. -/
def rayAt (X : Rays Ideal) (j : Blk.Idx) : Ray := ⟨X.px j, X.py j, X.pz j, X.dx j, X.dy j, X.dz j, X.it j⟩

variable (σ : Scene Ideal) (X : Rays Ideal) (s : Fin 16) (j : Blk.Idx)

theorem infV_at : (Bounce.infV : Bounce.V Ideal) j = ⊤ := ofBits_top
theorem zeroV_at : (Bounce.zeroV : Bounce.V Ideal) j = 0 := Ideal.ofBits_zero_f32
theorem epsV_at : (Bounce.epsV : Bounce.V Ideal) j = eps := rfl

theorem b_at : Bounce.b σ X s j = b σ (rayAt X j) s := rfl
theorem disc_at : Bounce.disc σ X s j = disc σ (rayAt X j) s := rfl
theorem nb_at : Bounce.nb σ X s j = -b σ (rayAt X j) s := by
  show (Bounce.zeroV : Bounce.V Ideal) j - Bounce.b σ X s j = _
  rw [zeroV_at, b_at, zero_sub]
theorem sq_at : Bounce.sq σ X s j = Ideal.sqrt (disc σ (rayAt X j) s) := rfl
theorem t0_at : Bounce.t0 σ X s j = -b σ (rayAt X j) s - Ideal.sqrt (disc σ (rayAt X j) s) := by
  rw [← nb_at, ← sq_at]; rfl
theorem t1_at : Bounce.t1 σ X s j = -b σ (rayAt X j) s + Ideal.sqrt (disc σ (rayAt X j) s) := by
  rw [← nb_at, ← sq_at]; rfl

/-- The comparisons' bits. -/
theorem cmp_lt (x y : EReal) [Decidable (x < y)] : Ideal.cmp .olt x y = BitVec.ofBool (decide (x < y)) := by
  simp only [Ideal.cmp]; congr

theorem cmp_gt (x y : EReal) [Decidable (y < x)] : Ideal.cmp .ogt x y = BitVec.ofBool (decide (y < x)) := by
  simp only [Ideal.cmp]; congr

/-- A choice on a comparison's bit. -/
theorem select_lt {α : Type} {S : Shape} (c : IVec S 1) (a b : S.Idx → α) (i : S.Idx) (p : Prop) [Decidable p]
    (h : c i = BitVec.ofBool (decide p)) : select c a b i = if p then a i else b i := by
  show Scalar.select (c i) (a i) (b i) = _
  rw [h]
  by_cases hp : p <;> simp [hp, Scalar.select]

theorem andi_lt {S : Shape} (c d : IVec S 1) (i : S.Idx) (p q : Prop) [Decidable p] [Decidable q]
    (h : c i = BitVec.ofBool (decide p)) (h' : d i = BitVec.ofBool (decide q)) :
    andi c d i = BitVec.ofBool (decide (p ∧ q)) := by
  show c i &&& d i = _
  rw [h, h']
  by_cases hp : p <;> by_cases hq : q <;> simp [hp, hq]

/-- A choice on two comparisons' bits, and both bits as one. -/
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_and {α : Type} (p q : Prop) [Decidable p] [Decidable q] (a b : α) :
    Scalar.select (IntOp.andi (BitVec.ofBool (decide p)) (BitVec.ofBool (decide q))) a b = if p ∧ q then a else b := by
  rw [and_bits]
  by_cases h : p ∧ q <;> simp [h, Scalar.select]

/-- A word below sixteen is not negative, so wrapping negative words leaves it. -/
theorem wrap_index (k : Fin 16) :
    Scalar.select (IntOp.cmpi .slt (BitVec.ofNat 32 k.1) 0#32) (IntOp.addi (BitVec.ofNat 32 k.1) 16#32) (BitVec.ofNat 32 k.1)
      = BitVec.ofNat 32 k.1 := by
  revert k; decide

/-- The least index at which a distance is attained, sixteen standing where it is not, is the first such index. -/
theorem min_index (t : Fin 16 → EReal) (m : EReal) {k : Fin 16} (hk : t k = m) (hf : ∀ j < k, t j ≠ m)
    [∀ j, Decidable (t j = m)] :
    Finset.univ.fold IntOp.minsi 2147483647#32 (fun j => if t j = m then BitVec.ofNat 32 j.1 else 16#32)
      = BitVec.ofNat 32 k.1 := by
  apply BitVec.eq_of_toInt_eq
  have hom : ∀ x y : BitVec 32, min x.toInt y.toInt = (IntOp.minsi x y).toInt := fun x y => by
    simp only [IntOp.minsi, BitVec.slt_iff_toInt_lt]
    split <;> omega
  have small : ∀ j : Fin 16, (BitVec.ofNat 32 j.1).toInt = j.1 := by decide
  rw [← Finset.fold_hom (op' := (min : ℤ → ℤ → ℤ)) (fun x y => (hom x y).symm)]
  apply le_antisymm
  · refine (Finset.fold_min_le _).2 (.inr ⟨k, Finset.mem_univ _, ?_⟩)
    rw [if_pos hk]
  · refine (Finset.le_fold_min _).2 ⟨?_, fun j _ => ?_⟩
    · rw [small]; have := k.2; exact (show (k.1 : ℤ) ≤ 2147483647 by omega)
    · rw [small]
      split
      · next h =>
        rw [small]
        exact_mod_cast not_lt.1 fun hlt => hf j hlt h
      · have := k.2; exact (show (k.1 : ℤ) ≤ 16 by omega)

/-- The distance to a sphere, ray by ray. -/
theorem t_at : Bounce.t σ X s j = time σ (rayAt X j) s := by
  have hv : Bounce.valid σ X s j = BitVec.ofBool (decide (0 < disc σ (rayAt X j) s)) := by
    show Ideal.cmp .ogt (Bounce.disc σ X s j) ((Bounce.zeroV : Bounce.V Ideal) j) = _
    rw [cmp_gt, disc_at, zeroV_at]
  have h0 : Bounce.ok0 σ X s j = _ := andi_lt _ _ j _ _ hv
    (show Bounce.far0 σ X s j = BitVec.ofBool (decide (eps < Bounce.t0 σ X s j)) from cmp_gt (Bounce.t0 σ X s j) eps)
  have h1 : Bounce.ok1 σ X s j = _ := andi_lt _ _ j _ _ hv
    (show Bounce.far1 σ X s j = BitVec.ofBool (decide (eps < Bounce.t1 σ X s j)) from cmp_gt (Bounce.t1 σ X s j) eps)
  rw [time_eq (q := Ideal.sqrt (disc σ (rayAt X j) s)) s (fun _ => rfl), ← t0_at, ← t1_at]
  unfold Bounce.t Bounce.t1i
  rw [select_lt _ _ _ j _ h0, select_lt _ _ _ j _ h1, infV_at]

/-- A running minimum read at a ray belongs to sphere `k`. -/
def Own (B : Best Ideal) (k : Fin 16) : Prop :=
  B.cx j = σ.cx k ∧ B.cy j = σ.cy k ∧ B.cz j = σ.cz k ∧ B.r j = σ.r k ∧ B.refl j = σ.refl k

/-- The running minimum over spheres `a ≤ s < n`, at every ray. -/
def Runs (B : Best Ideal) (a n : ℕ) : Prop := Good σ (rayAt X j) a n (B.t j) (Own σ j B)

variable {σ X j}

theorem runs_init (a : ℕ) : Runs σ X j Bounce.init a a := by
  show Good σ (rayAt X j) a a ((Bounce.infV : Bounce.V Ideal) j) _
  rw [infV_at]; exact Good.start a _

theorem runs_upd {B : Best Ideal} {a : ℕ} (k : Fin 16) (ha : a ≤ k.1) (h : Runs σ X j B a k.1) :
    Runs σ X j (Bounce.upd σ X k B) a (k.1 + 1) := by
  have hc : Bounce.take σ X k B j = BitVec.ofBool (decide (time σ (rayAt X j) k < B.t j)) := by
    show Ideal.cmp .olt (Bounce.t σ X k j) (B.t j) = _
    rw [cmp_lt, t_at]
  unfold Runs Own Bounce.upd
  dsimp only
  simp only [select_lt _ _ _ j _ hc, t_at]
  by_cases hlt : time σ (rayAt X j) k < B.t j
  · simp only [if_pos hlt]
    exact Good.taken k ha h hlt ⟨rfl, rfl, rfl, rfl, rfl⟩
  · simp only [if_neg hlt]
    exact Good.kept k h hlt

attribute [local irreducible] Bounce.upd

theorem runs_merge {B A : Best Ideal} (h : Runs σ X j A 0 8) (h' : Runs σ X j B 8 16) :
    Runs σ X j (Bounce.merge B A) 0 16 := by
  have hc : Bounce.tk B A j = BitVec.ofBool (decide (B.t j < A.t j)) := cmp_lt (B.t j) (A.t j)
  unfold Runs Own Bounce.merge
  dsimp only
  simp only [select_lt _ _ _ j _ hc]
  by_cases hlt : B.t j < A.t j
  · simp only [if_pos hlt]
    exact Good.second (by decide) h h' hlt
  · simp only [if_neg hlt]
    exact Good.fst (by decide) h h' hlt

theorem runs_lo : Runs σ X j (Bounce.lo σ X) 0 8 := by
  rw [Bounce.lo]
  have h0 := runs_upd (σ := σ) (X := X) (j := j) 0 (by decide) (runs_init 0)
  have h1 := runs_upd 1 (by decide) h0
  have h2 := runs_upd 2 (by decide) h1
  have h3 := runs_upd 3 (by decide) h2
  have h4 := runs_upd 4 (by decide) h3
  have h5 := runs_upd 5 (by decide) h4
  have h6 := runs_upd 6 (by decide) h5
  exact runs_upd 7 (by decide) h6

theorem runs_hi : Runs σ X j (Bounce.hi σ X) 8 16 := by
  rw [Bounce.hi]
  have h0 := runs_upd (σ := σ) (X := X) (j := j) 8 (by decide) (runs_init 8)
  have h1 := runs_upd 9 (by decide) h0
  have h2 := runs_upd 10 (by decide) h1
  have h3 := runs_upd 11 (by decide) h2
  have h4 := runs_upd 12 (by decide) h3
  have h5 := runs_upd 13 (by decide) h4
  have h6 := runs_upd 14 (by decide) h5
  exact runs_upd 15 (by decide) h6

theorem runs_best : Runs σ X j (Bounce.best σ X) 0 16 := by
  rw [Bounce.best]
  exact runs_merge runs_lo runs_hi

attribute [local irreducible] Bounce.best

variable (σ X j)

/-- A bounce of a block is a bounce of each of its rays. -/
theorem bounce_at : rayAt (Bounce.bounce σ X) j = bounce σ (rayAt X j) := by
  have hn : (Bounce.best σ X).t j = near σ (rayAt X j) := runs_best.near.symm
  have hh : Bounce.hit σ X j = BitVec.ofBool (decide (near σ (rayAt X j) < ⊤)) := by
    show Ideal.cmp .olt ((Bounce.best σ X).t j) ((Bounce.infV : Bounce.V Ideal) j) = _
    rw [cmp_lt, hn, infV_at]
  have hl : Bounce.lit X j = BitVec.ofBool (decide (0 < (rayAt X j).it)) := by
    show Ideal.cmp .ogt (X.it j) ((Bounce.zeroV : Bounce.V Ideal) j) = _
    rw [cmp_gt, zeroV_at]; rfl
  have ha : Bounce.active σ X j = _ := andi_lt _ _ j _ _ hh hl
  have hr : rayAt (Bounce.bounce σ X) j = if near σ (rayAt X j) < ⊤ ∧ 0 < (rayAt X j).it then
      ⟨Bounce.hx σ X j, Bounce.hy σ X j, Bounce.hz σ X j, Bounce.ex σ X j, Bounce.ey σ X j, Bounce.ez σ X j,
        Bounce.ni σ X j⟩ else rayAt X j := by
    rw [show rayAt (Bounce.bounce σ X) j = ⟨select (Bounce.active σ X) (Bounce.hx σ X) X.px j, select (Bounce.active σ X) (Bounce.hy σ X) X.py j,
      select (Bounce.active σ X) (Bounce.hz σ X) X.pz j, select (Bounce.active σ X) (Bounce.ex σ X) X.dx j, select (Bounce.active σ X) (Bounce.ey σ X) X.dy j,
      select (Bounce.active σ X) (Bounce.ez σ X) X.dz j, select (Bounce.active σ X) (Bounce.ni σ X) X.it j⟩ from rfl]
    simp only [select_lt _ _ _ j _ ha]
    split <;> rfl
  rw [hr, bounce]
  by_cases hp : near σ (rayAt X j) < ⊤ ∧ 0 < (rayAt X j).it
  · rw [if_pos hp, if_pos hp]
    obtain ⟨ox, oy, oz, or, of⟩ : Own σ j (Bounce.best σ X) (first σ (rayAt X j)) := runs_best.first (by rw [hn]; exact hp.1)
    have ts : Bounce.tsafe σ X j = near σ (rayAt X j) := by
      unfold Bounce.tsafe
      rw [select_lt _ _ _ j _ hh, if_pos hp.1, hn]
    have hx : Bounce.hx σ X j = along (X.px j) (X.dx j) (near σ (rayAt X j)) := by rw [← ts]; rfl
    have hy : Bounce.hy σ X j = along (X.py j) (X.dy j) (near σ (rayAt X j)) := by rw [← ts]; rfl
    have hz : Bounce.hz σ X j = along (X.pz j) (X.dz j) (near σ (rayAt X j)) := by rw [← ts]; rfl
    have nx : Bounce.nx σ X j = Ideal.div (along (X.px j) (X.dx j) (near σ (rayAt X j)) - σ.cx (first σ (rayAt X j)))
        (σ.r (first σ (rayAt X j))) := by rw [← hx, ← ox, ← or]; rfl
    have ny : Bounce.ny σ X j = Ideal.div (along (X.py j) (X.dy j) (near σ (rayAt X j)) - σ.cy (first σ (rayAt X j)))
        (σ.r (first σ (rayAt X j))) := by rw [← hy, ← oy, ← or]; rfl
    have nz : Bounce.nz σ X j = Ideal.div (along (X.pz j) (X.dz j) (near σ (rayAt X j)) - σ.cz (first σ (rayAt X j)))
        (σ.r (first σ (rayAt X j))) := by rw [← hz, ← oz, ← or]; rfl
    have dn : Bounce.dn σ X j = X.dx j * Bounce.nx σ X j + X.dy j * Bounce.ny σ X j + X.dz j * Bounce.nz σ X j :=
      add_right_comm (X.dx j * Bounce.nx σ X j) (X.dz j * Bounce.nz σ X j) (X.dy j * Bounce.ny σ X j)
    have ex : Bounce.ex σ X j = X.dx j - two * Bounce.dn σ X j * Bounce.nx σ X j := rfl
    have ey : Bounce.ey σ X j = X.dy j - two * Bounce.dn σ X j * Bounce.ny σ X j := rfl
    have ez : Bounce.ez σ X j = X.dz j - two * Bounce.dn σ X j * Bounce.nz σ X j := rfl
    have ni : Bounce.ni σ X j = X.it j * (Bounce.best σ X).refl j := rfl
    rw [hx, hy, hz, ex, ey, ez, ni, dn, nx, ny, nz, of]
    rfl
  · rw [if_neg hp, if_neg hp]

/-- So are many bounces. -/
theorem bounces_at (n : ℕ) : rayAt ((Bounce.bounce σ)^[n] X) j = (bounce σ)^[n] (rayAt X j) := by
  induction n with
  | zero => rfl
  | succ n ih => rw [Function.iterate_succ_apply', Function.iterate_succ_apply', bounce_at, ih]

end Cert.Ray
-- ==== Proof.RefStep.lean ====
/-
  The reference read one ray at a time: one trip of its loop is one bounce of every ray.
-/
module

public import proofs.«01_k».proof.Proof.RayBlock
public import proofs.«01_k».proof.Proof.Gen.ReferenceIdeal.Run
public import Idealize.ShloMosaic.Lib.Routing.OpsSet
public import Idealize.ShloMosaic.Lib.Tactic.CleanTypes

@[expose] public section

set_option maxRecDepth 8192

noncomputable section

namespace Cert.Ray.Ref

open Idealize.ShloMosaic Idealize.ShloMosaic.TcCoe
open Cert.ReferenceIdeal Cert.ReferenceIdeal.Facts₀ Cert.ReferenceIdeal.Value
open Cert.Bounce (Scene)

/-- The reference's buffers. -/
abbrev Mem : Type := Valuation τ sig (Elt Ideal)

variable (V : Mem) (n : Fin 32768) (s : Fin 16)

def cen : FVec Ideal S16x3 .f32 := V (Proc.devRef .tc main_v13_0)
def rad : FVec Ideal S16 .f32 := V (Proc.devRef .tc main_v13_1)
def refl : FVec Ideal S16 .f32 := V (Proc.devRef .tc main_v13_2)
def pos : FVec Ideal S32768x3 .f32 := V (Proc.devRef .tc main_v13_4)
def dir : FVec Ideal S32768x3 .f32 := V (Proc.devRef .tc main_v13_5)
def int : FVec Ideal S32768 .f32 := V (Proc.devRef .tc main_v13_6)

/-- The spheres the reference holds. -/
def sceneOf : Scene Ideal :=
  ⟨fun s => cen V (ix2 s 0), fun s => cen V (ix2 s 1), fun s => cen V (ix2 s 2), fun s => rad V (ix1 s),
    fun s => refl V (ix1 s)⟩
/-- Ray `n` of those the reference holds. -/
def rayOf : Ray :=
  ⟨pos V (ix2 n 0), pos V (ix2 n 1), pos V (ix2 n 2), dir V (ix2 n 0), dir V (ix2 n 1), dir V (ix2 n 2), int V (ix1 n)⟩

theorem v20_at (a : Fin 3) : res_main_while0b_v20 V (ix3 n s a) = pos V (ix2 n a) - cen V (ix2 s a) := by
  unfold res_main_while0b_v20
  clean_types
  pointwise
  rfl

theorem v24_at : res_main_while0b_v24 V (ix2 n s) = b (sceneOf V) (rayOf V n) s := by
  unfold res_main_while0b_v24
  clean_types
  pointwise
  rw [Fin.sum_univ_three]
  simp only [v20_at]
  rfl

theorem v32_at : res_main_while0b_v32 V (ix2 n s) = disc (sceneOf V) (rayOf V n) s := by
  unfold res_main_while0b_v32 res_main_while0b_v27
  clean_types
  pointwise
  rw [Fin.sum_univ_three]
  simp only [v20_at, v24_at]
  rfl

theorem v34_at : res_main_while0b_v34 V (ix2 n s) = BitVec.ofBool (decide (0 < disc (sceneOf V) (rayOf V n) s)) := by
  unfold res_main_while0b_v34
  clean_types
  pointwise
  rw [v32_at]

theorem v36_at : res_main_while0b_v36 V (ix2 n s) = root (sceneOf V) (rayOf V n) s := by
  unfold res_main_while0b_v36
  clean_types
  pointwise
  rw [v32_at, v34_at, id_eq]
  pointwise
  rfl

theorem v38_at : res_main_while0b_v38 V (ix2 n s) = -b (sceneOf V) (rayOf V n) s - root (sceneOf V) (rayOf V n) s := by
  unfold res_main_while0b_v38
  clean_types
  pointwise
  rw [v36_at, v24_at]

theorem v40_at : res_main_while0b_v40 V (ix2 n s) = -b (sceneOf V) (rayOf V n) s + root (sceneOf V) (rayOf V n) s := by
  unfold res_main_while0b_v40
  clean_types
  pointwise
  rw [v36_at, v24_at]

theorem v49_at : res_main_while0b_v49 V (ix2 n s) = time (sceneOf V) (rayOf V n) s := by
  unfold res_main_while0b_v49
  clean_types
  pointwise
  rw [v38_at, v40_at, v34_at, id_eq]
  pointwise
  rw [Ray.select_and, Ray.select_and, ofBits_top]
  rfl

theorem v50_at : res_main_while0b_v50 V (ix1 n) = near (sceneOf V) (rayOf V n) := by
  unfold res_main_while0b_v50
  clean_types
  pointwise
  simp only [v49_at]
  rw [ofBits_top]
  rfl

/-- The index the reference takes is that of the first sphere at the nearest distance. -/
theorem v56_at : res_main_while0b_v56 V (ix1 n) = BitVec.ofNat 32 (first (sceneOf V) (rayOf V n)).1 := by
  unfold res_main_while0b_v56
  clean_types
  pointwise
  simp only [v49_at, v50_at, id_eq]
  pointwise
  exact min_index _ _ (first_spec (sceneOf V) (rayOf V n)).1 (fun j hj => ((first_spec (sceneOf V) (rayOf V n)).2 j hj).ne')

theorem v58_at : res_main_while0b_v58 V (ix1 n) = BitVec.ofBool (decide (near (sceneOf V) (rayOf V n) < ⊤)) := by
  unfold res_main_while0b_v58
  clean_types
  pointwise
  rw [v50_at, ofBits_top]

theorem v61_at : res_main_while0b_v61 V (ix1 n)
    = BitVec.ofBool (decide (near (sceneOf V) (rayOf V n) < ⊤ ∧ 0 < (rayOf V n).it)) := by
  unfold res_main_while0b_v61
  clean_types
  pointwise
  rw [v58_at]
  exact Ray.and_bits _ _

theorem v66_at (a : Fin 3) (hh : near (sceneOf V) (rayOf V n) < ⊤) :
    res_main_while0b_v66 V (ix2 n a) = along (pos V (ix2 n a)) (dir V (ix2 n a)) (near (sceneOf V) (rayOf V n)) := by
  unfold res_main_while0b_v66
  clean_types
  pointwise
  rw [v58_at, v50_at]
  pointwise
  rw [if_pos hh]
  rfl

/-- The index, as the reference's gathers take it. -/
abbrev idx : IVec S32768x1 32 :=
  broadcastInDim S32768x1 ![0] Gen.bcast_S32768_S32768x1_0
    (select (cmpi .slt (res_main_while0b_v56 V) (broadcastInDim S32768 ![] Gen.bcast_S_S32768 (constantI S_ 32 0#32)))
      (addi (res_main_while0b_v56 V) (broadcastInDim S32768 ![] Gen.bcast_S_S32768 (constantI S_ 32 16#32)))
      (res_main_while0b_v56 V))

theorem idx_at : idx V (ix2 n 0) = BitVec.ofNat 32 (first (sceneOf V) (rayOf V n)).1 := by
  unfold idx
  pointwise
  rw [v56_at]
  exact Ray.wrap_index _

theorem gather_cen (a : Fin 3) : Host.gather gather_S16x3_S32768x1_S32768x3_1_0_n_n_0_1_13 (cen V) (idx V) (ix2 n a)
    = cen V (ix2 (first (sceneOf V) (rayOf V n)) a) :=
  Routing.gather_row _ rfl rfl rfl rfl rfl (cen V) (idx V) n a _ (idx_at V n) (by decide)

theorem gather_rad : Host.gather gather_S16_S32768x1_S32768_n_0_n_n_0_1_1 (rad V) (idx V) (ix1 n)
    = rad V (ix1 (first (sceneOf V) (rayOf V n))) :=
  Routing.gather_take1 _ rfl rfl rfl rfl (rad V) (idx V) n _ (idx_at V n) (by decide)

theorem gather_refl : Host.gather gather_S16_S32768x1_S32768_n_0_n_n_0_1_1 (refl V) (idx V) (ix1 n)
    = refl V (ix1 (first (sceneOf V) (rayOf V n))) :=
  Routing.gather_take1 _ rfl rfl rfl rfl (refl V) (idx V) n _ (idx_at V n) (by decide)

theorem v84_at (a : Fin 3) (hh : near (sceneOf V) (rayOf V n) < ⊤) :
    res_main_while0b_v84 V (ix2 n a) = Ideal.div (along (pos V (ix2 n a)) (dir V (ix2 n a)) (near (sceneOf V) (rayOf V n))
      - cen V (ix2 (first (sceneOf V) (rayOf V n)) a)) (rad V (ix1 (first (sceneOf V) (rayOf V n)))) := by
  unfold res_main_while0b_v84
  clean_types
  pointwise
  rw [v66_at V n a hh, ← gather_cen, ← gather_rad]
  rfl

theorem pos_step (a : Fin 3) : pos (STEP V) (ix2 n a)
    = if near (sceneOf V) (rayOf V n) < ⊤ ∧ 0 < (rayOf V n).it then
        along (pos V (ix2 n a)) (dir V (ix2 n a)) (near (sceneOf V) (rayOf V n)) else pos V (ix2 n a) := by
  rw [pos, STEP_main_v13_4]
  unfold step_main_v13_4 res_main_while0b_v101
  clean_types
  rw [id_eq]
  pointwise
  rw [v61_at]
  pointwise
  split
  · next h => exact v66_at V n a h.1
  · rfl

theorem dir_step (a : Fin 3) : dir (STEP V) (ix2 n a)
    = if near (sceneOf V) (rayOf V n) < ⊤ ∧ 0 < (rayOf V n).it then
        dir V (ix2 n a) - two * (dir V (ix2 n 0) * res_main_while0b_v84 V (ix2 n 0)
          + dir V (ix2 n 1) * res_main_while0b_v84 V (ix2 n 1) + dir V (ix2 n 2) * res_main_while0b_v84 V (ix2 n 2))
          * res_main_while0b_v84 V (ix2 n a) else dir V (ix2 n a) := by
  rw [dir, STEP_main_v13_5]
  unfold step_main_v13_5 res_main_while0b_v101
  clean_types
  rw [id_eq]
  pointwise
  rw [v61_at]
  pointwise
  rw [Fin.sum_univ_three]
  rfl

theorem int_step : int (STEP V) (ix1 n)
    = if near (sceneOf V) (rayOf V n) < ⊤ ∧ 0 < (rayOf V n).it then
        int V (ix1 n) * refl V (ix1 (first (sceneOf V) (rayOf V n))) else int V (ix1 n) := by
  rw [int, STEP_main_v13_6]
  unfold step_main_v13_6
  clean_types
  rw [id_eq]
  pointwise
  rw [v61_at]
  pointwise
  rw [← gather_refl]
  rfl

/-- A trip leaves the spheres … -/
theorem scene_step : sceneOf (STEP V) = sceneOf V := by
  unfold sceneOf cen rad refl
  rw [STEP_main_v13_0, STEP_main_v13_1, STEP_main_v13_2]

/-- … and bounces every ray. -/
theorem ray_step : rayOf (STEP V) n = bounce (sceneOf V) (rayOf V n) := by
  rw [rayOf, pos_step, pos_step, pos_step, dir_step, dir_step, dir_step, int_step, bounce]
  by_cases h : near (sceneOf V) (rayOf V n) < ⊤ ∧ 0 < (rayOf V n).it
  · simp only [if_pos h, v84_at V n _ h.1]
    rfl
  · simp only [if_neg h]
    rfl

/-- So after `k` trips the spheres are as they were and every ray has bounced `k` times. -/
theorem steps (k : ℕ) : sceneOf (STEP^[k] V) = sceneOf V ∧ rayOf (STEP^[k] V) n = (bounce (sceneOf V))^[k] (rayOf V n) := by
  induction k with
  | zero => exact ⟨rfl, rfl⟩
  | succ k ih =>
    rw [Function.iterate_succ_apply', Function.iterate_succ_apply', scene_step, ray_step, ih.1, ih.2]
    exact ⟨rfl, rfl⟩

end Cert.Ray.Ref
-- ==== Proof.Spec.lean ====
/-
  The whole problem, ray by ray: where a ray starts, the spheres, and the result of a hundred bounces.
-/
module

public import proofs.«01_k».proof.Proof.Ray

@[expose] public section

noncomputable section

namespace Cert.Ray

open Idealize.ShloMosaic
open Cert.Bounce (Scene)

/-- The scales of the scene, as the programs write them: positions by five, centres by ten, radii by four, and the tiny
number added to the length a direction is divided by. -/
def five : EReal := Ideal.ofBits .f32 0x40A00000#32
def ten : EReal := Ideal.ofBits .f32 0x41200000#32
def four : EReal := Ideal.ofBits .f32 0x40800000#32
def tiny : EReal := Ideal.ofBits .f32 0x2B8CBCCC#32

/-- The length of a direction. -/
def len (x y z : EReal) : EReal := Ideal.sqrt (x * x + y * y + z * z) + tiny

/-- Ray `n` before any bounce: its position scaled, its direction normalised. -/
def start (p d : (⟨2, ![32768, 3]⟩ : Shape).Idx → EReal) (i : (⟨1, ![32768]⟩ : Shape).Idx → EReal) (n : Fin 32768) : Ray :=
  let l := len (d (ix2 n 0)) (d (ix2 n 1)) (d (ix2 n 2))
  ⟨p (ix2 n 0) * five, p (ix2 n 1) * five, p (ix2 n 2) * five,
    Ideal.div (d (ix2 n 0)) l, Ideal.div (d (ix2 n 1)) l, Ideal.div (d (ix2 n 2)) l, i (ix1 n)⟩

/-- The spheres at scene scale. -/
def scaled (c : (⟨2, ![16, 3]⟩ : Shape).Idx → EReal) (r f : (⟨1, ![16]⟩ : Shape).Idx → EReal) : Scene Ideal :=
  ⟨fun s => c (ix2 s 0) * ten, fun s => c (ix2 s 1) * ten, fun s => c (ix2 s 2) * ten, fun s => r (ix1 s) * four + 1,
    fun s => f (ix1 s)⟩

/-- A ray's seven numbers in the order the result has them. -/
def comp (X : Ray) (k : Fin 7) : EReal := ![X.px, X.py, X.pz, X.dx, X.dy, X.dz, X.it] k

/-- The result: every ray after a hundred bounces. -/
def result (p d : (⟨2, ![32768, 3]⟩ : Shape).Idx → EReal) (i : (⟨1, ![32768]⟩ : Shape).Idx → EReal)
    (c : (⟨2, ![16, 3]⟩ : Shape).Idx → EReal) (r f : (⟨1, ![16]⟩ : Shape).Idx → EReal) :
    (⟨2, ![32768, 7]⟩ : Shape).Idx → EReal :=
  fun j => comp ((bounce (scaled c r f))^[100] (start p d i (j 0))) (j 1)

end Cert.Ray
-- ==== Proof.RefValue.lean ====
/-
  The reference's result: every ray after a hundred bounces.
-/
module

public import proofs.«01_k».proof.Proof.RefStep
public import proofs.«01_k».proof.Proof.Spec

@[expose] public section

set_option maxRecDepth 8192

noncomputable section

namespace Cert.Ray.Ref

open Idealize.ShloMosaic Idealize.ShloMosaic.TcCoe Idealize.ShloMosaic.StableHlo Idealize.ShloMosaic.Tactic
open Cert.ReferenceIdeal Cert.ReferenceIdeal.Facts₀ Cert.ReferenceIdeal.Value
open Cert.Bounce (Scene)

/-- The reference's result read at a place is a number of a ray. -/
theorem out_at (V : Mem) (n : Fin 32768) (k : Fin 7) : out_main_v15 V (ix2 n k) = comp (rayOf V n) k := by
  unfold out_main_v15
  clean_types
  pointwise
  fin_vals k with hk
  all_goals simp only [hk, Nat.reduceSub, Nat.reduceLT, ↓reduceDIte]
  · obtain rfl : k = 0 := Fin.ext hk
    rfl
  · obtain rfl : k = 1 := Fin.ext hk
    rfl
  · obtain rfl : k = 2 := Fin.ext hk
    rfl
  · obtain rfl : k = 3 := Fin.ext hk
    rfl
  · obtain rfl : k = 4 := Fin.ext hk
    rfl
  · obtain rfl : k = 5 := Fin.ext hk
    rfl
  · obtain rfl : k = 6 := Fin.ext hk
    rfl

variable (m : (ℓ : Loc nD τ sig) → Buf (Elt Ideal) ℓ) (c : Dev nD)

/-- The arguments, as arrays. -/
abbrev a0 : FVec Ideal S32768x3 .f32 := m ((c.tc : Thread nD τ).loc main_arg0)
abbrev a1 : FVec Ideal S32768x3 .f32 := m ((c.tc : Thread nD τ).loc main_arg1)
abbrev a2 : FVec Ideal S32768 .f32 := m ((c.tc : Thread nD τ).loc main_arg2)
abbrev a3 : FVec Ideal S16x3 .f32 := m ((c.tc : Thread nD τ).loc main_arg3)
abbrev a4 : FVec Ideal S16 .f32 := m ((c.tc : Thread nD τ).loc main_arg4)
abbrev a5 : FVec Ideal S16 .f32 := m ((c.tc : Thread nD τ).loc main_arg5)

/-! What the loop starts from. -/

theorem entry_pos : pos (entryContents preI m c) =
    mulf (a0 m c) (broadcastInDim S32768x3 ![] Gen.bcast_S_S32768x3 (constant S_ .f32 0x40A00000#32)) := by
  unfold pos
  simp only [entryContents, afterL_cons, afterL_nil]
  after_results
  rfl

theorem entry_dir : dir (entryContents preI m c) =
    Host.divf (a1 m c) (broadcastInDim S32768x3 ![0, 1] Gen.bcast_S32768x1_S32768x3_0_1
      (addf (Host.sqrt (broadcastInDim S32768x1 ![0] Gen.bcast_S32768_S32768x1_0
        (Host.reduceAdd (mulf (a1 m c) (a1 m c)) (constant S_ .f32 0x00000000#32) Gen.reducesTo_S32768x3_S32768_d1 Gen.h_S_)))
        (broadcastInDim S32768x1 ![] Gen.bcast_S_S32768x1 (constant S_ .f32 0x2B8CBCCC#32)))) := by
  unfold dir
  simp only [entryContents, afterL_cons, afterL_nil]
  after_results
  rfl

theorem entry_int : int (entryContents preI m c) = a2 m c := by
  unfold int
  simp only [entryContents, afterL_cons, afterL_nil]
  after_results
  rfl

theorem entry_cen : cen (entryContents preI m c) =
    mulf (a3 m c) (broadcastInDim S16x3 ![] Gen.bcast_S_S16x3 (constant S_ .f32 0x41200000#32)) := by
  unfold cen
  simp only [entryContents, afterL_cons, afterL_nil]
  after_results
  rfl

theorem entry_rad : rad (entryContents preI m c) =
    addf (mulf (a4 m c) (broadcastInDim S16 ![] Gen.bcast_S_S16 (constant S_ .f32 0x40800000#32)))
      (broadcastInDim S16 ![] Gen.bcast_S_S16 (constant S_ .f32 0x3F800000#32)) := by
  unfold rad
  simp only [entryContents, afterL_cons, afterL_nil]
  after_results
  rfl

theorem entry_refl : refl (entryContents preI m c) = a5 m c := by
  unfold refl
  simp only [entryContents, afterL_cons, afterL_nil]
  after_results
  rfl

theorem entry_dir_at (n : Fin 32768) (a : Fin 3) : dir (entryContents preI m c) (ix2 n a) =
    Ideal.div (a1 m c (ix2 n a)) (len (a1 m c (ix2 n 0)) (a1 m c (ix2 n 1)) (a1 m c (ix2 n 2))) := by
  rw [entry_dir]
  pointwise
  rw [Fin.sum_univ_three]
  rfl

/-- The spheres the loop starts from. -/
theorem scene_entry : sceneOf (entryContents preI m c) = scaled (a3 m c) (a4 m c) (a5 m c) := by
  unfold sceneOf scaled
  rw [entry_cen, entry_rad, entry_refl]
  pointwise
  rfl

/-- The rays the loop starts from. -/
theorem ray_entry (n : Fin 32768) : rayOf (entryContents preI m c) n = start (a0 m c) (a1 m c) (a2 m c) n := by
  unfold rayOf start
  rw [entry_pos, entry_int, entry_dir_at, entry_dir_at, entry_dir_at]
  pointwise
  rfl

/-- The reference's result. -/
theorem out_eq : out_main_v15 (STEP^[100] (entryContents preI m c))
    = result (a0 m c) (a1 m c) (a2 m c) (a3 m c) (a4 m c) (a5 m c) := by
  refine funext fun (j : S32768x7.Idx) => ?_
  obtain ⟨n, k, rfl⟩ : ∃ (n : Fin 32768) (k : Fin 7), j = ix2 n k := ⟨j 0, j 1, eq_ix2 j⟩
  rw [out_at, (steps _ n 100).2, scene_entry, ray_entry]
  rfl

end Cert.Ray.Ref
-- ==== Proof.KernelBlock.lean ====
/-
  What one block of the kernel computes, ray by ray: the spheres at scene scale, the rays it starts from, and each ray
  after a hundred bounces.
-/
module

public import proofs.«01_k».proof.Proof.RayBlock
public import proofs.«01_k».proof.Proof.Spec
public import proofs.«01_k».proof.Proof.Frame

@[expose] public section

set_option maxRecDepth 8192

noncomputable section

namespace Cert.Ray.Ker

open Idealize.ShloMosaic Idealize.ShloMosaic.TcCoe Idealize.ShloMosaic.Tactic
open Cert.KernelIdeal Cert.KernelIdeal.Gen
open Cert.Proof.Ideal (rp w2 w1 plane unit center radius radius0 word ret1 ret2 ret3 ret4 ret5 ret6 ret7 outs Lv looped
  scene rays stored outAt Carry P1 planes)
open Cert.Bounce (Scene Rays)

/-- The words the body reads of the tables are those at their row and column. -/
theorem w2_eq (s : Fin 16) (a : Fin 3) (h) : w2 s.1 a.1 h = ix2 s a := by
  refine funext fun d => Fin.ext ?_
  match d with
  | ⟨0, _⟩ => show s.1 + 1 * 0 = s.1; omega
  | ⟨1, _⟩ => show a.1 + 1 * 0 = a.1; omega

theorem w1_eq (s : Fin 16) (h) : w1 s.1 h = ix1 s := by
  refine funext fun d => Fin.ext ?_
  match d with
  | ⟨0, _⟩ => show s.1 + 1 * 0 = s.1; omega

theorem hz : (![0, 0] : Fin 2 → Nat) = fun _ => 0 := funext fun a => by fin_cases a <;> rfl

/-- The whole block read is the block. -/
theorem plane_at (x : Vec Ideal S16x128 .f32) (j : S16x128.Idx) : plane x j = x j := by
  unfold plane
  refine (congrFun (shapeCast_self (s := S16x128) (fun i => x (rp.idx i)) _) j).trans ?_
  refine congrArg x (funext fun d => Fin.ext ?_)
  match d with
  | ⟨0, _⟩ => show 0 + 1 * (j 0).1 = (j 0).1; omega
  | ⟨1, _⟩ => show 0 + 1 * (j 1).1 = (j 1).1; omega

theorem stored_eq (p : FVec Ideal S16x128 .f32) : stored p = p := by
  unfold stored
  exact View.canon_unit_zero (Val := Elt Ideal) (S := S16x128) (e := .f32) hz _ p

variable (x0 : Vec Ideal S16x3 .f32) (x1 x2 : Vec Ideal S16 .f32)

theorem center_at (s : Fin 16) (a : Fin 3) {n b : ℕ} (hn : n = s.1) (hb : b = a.1) (h) :
    center x0 (w2 n b h) = x0 (ix2 s a) * ten := by
  subst hn hb
  rw [w2_eq]; rfl

theorem radius_at (s : Fin 16) {n : ℕ} (hn : n = s.1) (h) : radius x1 (w1 n h) = x1 (ix1 s) * four + 1 := by
  subst hn
  rw [w1_eq, ← Ideal.ofBits_one_f32]; rfl

theorem word_at (s : Fin 16) {n : ℕ} (hn : n = s.1) (h) : word x2 (w1 n h) = x2 (ix1 s) := by
  subst hn
  rw [w1_eq]; rfl

variable (x3 x4 x5 x6 x7 x8 x9 : Vec Ideal S16x128 .f32)

/-- The spheres a block bounces its rays against, as the body's parts return them. -/
abbrev sceneOf : Scene Ideal :=
  scene (ret1 x0 x1 x2 x3 x4 x5 x6 x7 x8 x9) (ret2 x0 x1 x2) (ret3 x0 x1 x2) (ret4 x0 x1 x2) (ret5 x0 x1 x2)
    (ret6 x0 x1 x2) (ret7 x0 x1 x2)

theorem scene_cx (s : Fin 16) : (sceneOf x0 x1 x2 x3 x4 x5 x6 x7 x8 x9).cx s = x0 (ix2 s 0) * ten := by
  dsimp only [sceneOf, scene, ret1, ret2, ret3, ret4, ret5, ret6, ret7]
  fin_cases s <;> simp only [Fin.reduceFinMk, Matrix.cons_val] <;> exact center_at x0 _ 0 (by rfl) (by rfl) _

theorem scene_cy (s : Fin 16) : (sceneOf x0 x1 x2 x3 x4 x5 x6 x7 x8 x9).cy s = x0 (ix2 s 1) * ten := by
  dsimp only [sceneOf, scene, ret1, ret2, ret3, ret4, ret5, ret6, ret7]
  fin_cases s <;> simp only [Fin.reduceFinMk, Matrix.cons_val] <;> exact center_at x0 _ 1 (by rfl) (by rfl) _

theorem scene_cz (s : Fin 16) : (sceneOf x0 x1 x2 x3 x4 x5 x6 x7 x8 x9).cz s = x0 (ix2 s 2) * ten := by
  dsimp only [sceneOf, scene, ret1, ret2, ret3, ret4, ret5, ret6, ret7]
  fin_cases s <;> simp only [Fin.reduceFinMk, Matrix.cons_val] <;> exact center_at x0 _ 2 (by rfl) (by rfl) _

theorem scene_r (s : Fin 16) : (sceneOf x0 x1 x2 x3 x4 x5 x6 x7 x8 x9).r s = x1 (ix1 s) * four + 1 := by
  dsimp only [sceneOf, scene, ret1, ret2, ret3, ret4, ret5, ret6, ret7]
  fin_cases s <;> simp only [Fin.reduceFinMk, Matrix.cons_val] <;> exact radius_at x1 _ (by rfl) _

theorem scene_refl (s : Fin 16) : (sceneOf x0 x1 x2 x3 x4 x5 x6 x7 x8 x9).refl s = x2 (ix1 s) := by
  dsimp only [sceneOf, scene, ret1, ret2, ret3, ret4, ret5, ret6, ret7]
  fin_cases s <;> simp only [Fin.reduceFinMk, Matrix.cons_val] <;> exact word_at x2 _ (by rfl) _

/-- They are the spheres at scene scale. -/
theorem scene_eq : sceneOf x0 x1 x2 x3 x4 x5 x6 x7 x8 x9 = scaled x0 x1 x2 := by
  unfold scaled
  rw [← funext (scene_cx x0 x1 x2 x3 x4 x5 x6 x7 x8 x9), ← funext (scene_cy x0 x1 x2 x3 x4 x5 x6 x7 x8 x9),
    ← funext (scene_cz x0 x1 x2 x3 x4 x5 x6 x7 x8 x9), ← funext (scene_r x0 x1 x2 x3 x4 x5 x6 x7 x8 x9),
    ← funext (scene_refl x0 x1 x2 x3 x4 x5 x6 x7 x8 x9)]

theorem scaled_at (x : Vec Ideal S16x128 .f32) (j : S16x128.Idx) : Cert.Proof.Ideal.scaled x j = x j * five := by
  rw [← plane_at x j]; rfl

theorem unit_at (x : Vec Ideal S16x128 .f32) (j : S16x128.Idx) :
    unit x x6 x7 x8 j = Ideal.div (x j) (len (x6 j) (x7 j) (x8 j)) := by
  rw [len, add_right_comm, ← plane_at x j, ← plane_at x6 j, ← plane_at x7 j, ← plane_at x8 j]; rfl

/-- The ray a block has at position `j` before any bounce. -/
def startAt (j : S16x128.Idx) : Ray :=
  let l := len (x6 j) (x7 j) (x8 j)
  ⟨x3 j * five, x4 j * five, x5 j * five, Ideal.div (x6 j) l, Ideal.div (x7 j) l, Ideal.div (x8 j) l, x9 j⟩

theorem rays_at (j : S16x128.Idx) : rayAt (rays (ret1 x0 x1 x2 x3 x4 x5 x6 x7 x8 x9)) j = startAt x3 x4 x5 x6 x7 x8 x9 j := by
  unfold startAt
  dsimp only
  rw [← unit_at x6 x7 x8 x6 j, ← unit_at x6 x7 x8 x7 j, ← unit_at x6 x7 x8 x8 j, ← scaled_at x3 j, ← scaled_at x4 j,
    ← scaled_at x5 j, ← plane_at x9 j]
  rfl

/-- The ray seven planes have at position `j`. -/
def carryAt (o : Carry Ideal) (j : S16x128.Idx) : Ray :=
  ⟨o.1 j, o.2.1 j, o.2.2.1 j, o.2.2.2.1 j, o.2.2.2.2.1 j, o.2.2.2.2.2.1 j, o.2.2.2.2.2.2 j⟩

/-- A block's result at a ray: that ray after a hundred bounces. -/
theorem outs_at (t : Fin cfg0.N) (j : S16x128.Idx) : carryAt (outs (Lv t) x0 x1 x2 x3 x4 x5 x6 x7 x8 x9) j
    = (bounce (scaled x0 x1 x2))^[100] (startAt x3 x4 x5 x6 x7 x8 x9 j) := by
  rw [← rays_at x0 x1 x2 x3 x4 x5 x6 x7 x8 x9 j, ← bounces_at, ← scene_eq x0 x1 x2 x3 x4 x5 x6 x7 x8 x9]
  rfl

end Cert.Ray.Ker
-- ==== Proof.KernelValue.lean ====
/-
  The arrays the kernel's call leaves: every ray after a hundred bounces, number by number.
-/
module

public import proofs.«01_k».proof.Proof.KernelBlock
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 8192

noncomputable section

namespace Cert.Ray.Ker

open Idealize.ShloMosaic Idealize.ShloMosaic.TcCoe Idealize.ShloMosaic.StableHlo Idealize.ShloMosaic.Tactic
open Idealize.SL.Sem
open Cert.KernelIdeal Cert.KernelIdeal.Gen
open Cert.Proof.Ideal (outAt dats A_eq stored after_10 after_11 after_12 after_13 after_14 after_15 after_16)

/-- The blocks of the input planes move down the array with the point; the tables are one block each. -/
theorem index_in : ∀ t : Fin cfg0.N, (win0_0.index t = ![0, 0] ∧ win0_1.index t = ![0] ∧ win0_2.index t = ![0]) ∧
    win0_3.index t = ![t.val, 0] ∧ win0_4.index t = ![t.val, 0] ∧ win0_5.index t = ![t.val, 0] ∧
    win0_6.index t = ![t.val, 0] ∧ win0_7.index t = ![t.val, 0] ∧ win0_8.index t = ![t.val, 0] ∧
    win0_9.index t = ![t.val, 0] := by decide +kernel

/-- So do the blocks of the output planes. -/
theorem index_out : ∀ t : Fin cfg0.N, win0_10.index t = ![t.val, 0] ∧ win0_11.index t = ![t.val, 0] ∧
    win0_12.index t = ![t.val, 0] ∧ win0_13.index t = ![t.val, 0] ∧ win0_14.index t = ![t.val, 0] ∧
    win0_15.index t = ![t.val, 0] ∧ win0_16.index t = ![t.val, 0] := by decide +kernel

variable (m : (ℓ : Loc nD τ sig) → Buf (Elt Ideal) ℓ) (c : Dev nD)

/-- The six arguments. -/
abbrev a0 : S32768x3.Idx → EReal := m ((c : Thread nD τ).loc main_arg0)
abbrev a1 : S32768x3.Idx → EReal := m ((c : Thread nD τ).loc main_arg1)
abbrev a2 : S32768.Idx → EReal := m ((c : Thread nD τ).loc main_arg2)
abbrev a3 : S16x3.Idx → EReal := m ((c : Thread nD τ).loc main_arg3)
abbrev a4 : S16.Idx → EReal := m ((c : Thread nD τ).loc main_arg4)
abbrev a5 : S16.Idx → EReal := m ((c : Thread nD τ).loc main_arg5)

theorem row_lt (r : Fin 256) (l : Fin 128) : r.val * 128 + l.val < 32768 := by omega

/-- The ray at row `r` and lane `l` of a plane. -/
abbrev no (r : Fin 256) (l : Fin 128) : Fin 32768 := ⟨r.val * 128 + l.val, row_lt r l⟩

/-- The planes the kernel reads: each number of a ray, at the ray's row and lane. -/
theorem planes_at (r : Fin 256) (l : Fin 128) :
    V m c main_v12 (ix2 r l) = a0 m c (ix2 (no r l) 0) ∧ V m c main_v13 (ix2 r l) = a0 m c (ix2 (no r l) 1) ∧
    V m c main_v14 (ix2 r l) = a0 m c (ix2 (no r l) 2) ∧ V m c main_v15 (ix2 r l) = a1 m c (ix2 (no r l) 0) ∧
    V m c main_v16 (ix2 r l) = a1 m c (ix2 (no r l) 1) ∧ V m c main_v17 (ix2 r l) = a1 m c (ix2 (no r l) 2) ∧
    V m c main_v18 (ix2 r l) = a2 m c (ix1 (no r l)) := by
  dsimp only [V, V0, hostOps0, List.flatten_cons, List.flatten_nil, List.append_nil, List.cons_append, List.nil_append]
  refine ⟨?_, ?_, ?_, ?_, ?_, ?_, ?_⟩ <;> (after_results; clean_types; pointwise)

/-- The tables: the blocks are the arguments. -/
theorem tables (t : Fin cfg0.N) :
    (iblk m c 0 t : S16x3.Idx → EReal) = a3 m c ∧ (iblk m c 1 t : S16.Idx → EReal) = a4 m c ∧
    (iblk m c 2 t : S16.Idx → EReal) = a5 m c := by
  obtain ⟨⟨e0, e1, e2⟩, -⟩ := index_in t
  refine ⟨?_, ?_, ?_⟩ <;> funext y
  · refine Eq.trans ?_ (congrFun (V_main_arg3 m c) y); blk_ext [iblk, V, e0]
  · refine Eq.trans ?_ (congrFun (V_main_arg4 m c) y); blk_ext [iblk, V, e1]
  · refine Eq.trans ?_ (congrFun (V_main_arg5 m c) y); blk_ext [iblk, V, e2]

section Block

variable (t : Fin cfg0.N) (y : S16x128.Idx) (r : Fin 256) (l : Fin 128)
  (h0 : r.val = t.val * 16 + (y 0).val) (h1 : l.val = (y 1).val)

include h0 h1

set_option maxHeartbeats 1000000 in
/-- The blocks of the planes at point `t`. -/
theorem blocks_at :
    (iblk m c 3 t : S16x128.Idx → EReal) y = a0 m c (ix2 (no r l) 0) ∧
    (iblk m c 4 t : S16x128.Idx → EReal) y = a0 m c (ix2 (no r l) 1) ∧
    (iblk m c 5 t : S16x128.Idx → EReal) y = a0 m c (ix2 (no r l) 2) ∧
    (iblk m c 6 t : S16x128.Idx → EReal) y = a1 m c (ix2 (no r l) 0) ∧
    (iblk m c 7 t : S16x128.Idx → EReal) y = a1 m c (ix2 (no r l) 1) ∧
    (iblk m c 8 t : S16x128.Idx → EReal) y = a1 m c (ix2 (no r l) 2) ∧
    (iblk m c 9 t : S16x128.Idx → EReal) y = a2 m c (ix1 (no r l)) := by
  obtain ⟨-, e3, e4, e5, e6, e7, e8, e9⟩ := index_in t
  obtain ⟨p3, p4, p5, p6, p7, p8, p9⟩ := planes_at m c r l
  rw [← p3, ← p4, ← p5, ← p6, ← p7, ← p8, ← p9]
  refine ⟨?_, ?_, ?_, ?_, ?_, ?_, ?_⟩ <;> blk_ext [iblk, V, e3, e4, e5, e6, e7, e8, e9]

/-- A ray after a hundred bounces. -/
abbrev final (n : Fin 32768) : Ray :=
  (bounce (scaled (a3 m c) (a4 m c) (a5 m c)))^[100] (start (a0 m c) (a1 m c) (a2 m c) n)

/-- What the body leaves at point `t` in the place of a ray: the ray after a hundred bounces. -/
theorem out_at : carryAt (outAt m c t) y = final m c (no r l) := by
  obtain ⟨q0, q1, q2⟩ := tables m c t
  obtain ⟨p3, p4, p5, p6, p7, p8, p9⟩ := blocks_at m c t y r l h0 h1
  refine (outs_at _ _ _ _ _ _ _ _ _ _ t y).trans ?_
  rw [q0, q1, q2]
  unfold startAt
  rw [p3, p4, p5, p6, p7, p8, p9]
  rfl

end Block

/-- A plane of results: number `k` of every ray. -/
abbrev out (k : Fin 7) : S256x128.Idx → EReal := fun i => comp (final m c (no (i 0) (i 1))) k

/-- What the body leaves in a place of its block, number by number. -/
theorem out_comp (k : Fin 7) (t : Fin cfg0.N) (y : S16x128.Idx) (i : S256x128.Idx) (v : EReal)
    (hv : v = comp (carryAt (outAt m c t) y) k) (h0 : (i 0).val = t.val * 16 + (y 0).val)
    (h1 : (i 1).val = (y 1).val) : v = out m c k i :=
  hv.trans (congrArg (fun X => comp X k) (out_at m c t y (i 0) (i 1) h0 h1))

/-- The arrays the kernel leaves. -/
theorem arrays :
    ((dats m 0 c).arrAt 10 cfg0.N = out m c 0 ∧ (dats m 0 c).arrAt 11 cfg0.N = out m c 1 ∧
    (dats m 0 c).arrAt 12 cfg0.N = out m c 2) ∧ (dats m 0 c).arrAt 13 cfg0.N = out m c 3 ∧
    (dats m 0 c).arrAt 14 cfg0.N = out m c 4 ∧ (dats m 0 c).arrAt 15 cfg0.N = out m c 5 ∧
    (dats m 0 c).arrAt 16 cfg0.N = out m c 6 := by
  refine ⟨⟨?_, ?_, ?_⟩, ?_, ?_, ?_, ?_⟩
  all_goals
    refine (dats m 0 c).arrAt_eq_of_covers _ _ (by decide +kernel) fun t hf y => ?_
    blk_simp
    obtain ⟨e10, e11, e12, e13, e14, e15, e16⟩ := index_out t
    simp only [after_10, after_11, after_12, after_13, after_14, after_15, after_16, stored_eq]
    refine out_comp m c _ t y _ _ ?_ ?_ ?_
    · rfl
    · blk_simp [e10, e11, e12, e13, e14, e15, e16]
    · blk_simp [e10, e11, e12, e13, e14, e15, e16]

end Cert.Ray.Ker
-- ==== Proof.KernelResult.lean ====
/-
  The kernel's program, run: its result is every ray after a hundred bounces.
-/
module

public import proofs.«01_k».proof.Proof.KernelValue
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 8192

noncomputable section

namespace Cert.Ray.Ker

open Idealize.ShloMosaic Idealize.ShloMosaic.TcCoe Idealize.ShloMosaic.StableHlo Idealize.ShloMosaic.Tactic
open Idealize.SL.Sem
open Cert.KernelIdeal Cert.KernelIdeal.Gen
open Cert.Proof.Ideal (dats)

/-- The row and the lane of a ray. -/
abbrev row (n : Fin 32768) : Fin 256 := ⟨n.val / 128, by omega⟩
abbrev lane (n : Fin 32768) : Fin 128 := ⟨n.val % 128, by omega⟩

theorem no_row_lane (n : Fin 32768) : no (row n) (lane n) = n := Fin.ext (by simp only; omega)

/-- Setting seven columns side by side: row `n` of the result reads row `n` of each. -/
theorem side_by_side (X : Valuation τ sig (Elt Ideal)) (n : Fin 32768) (k : Fin 7) :
    after (hostOps1.drop 14) X (Proc.devRef .tc main_v34) (ix2 n k) =
      comp ⟨X (Proc.devRef .tc main_v27) (ix2 n 0), X (Proc.devRef .tc main_v28) (ix2 n 0),
        X (Proc.devRef .tc main_v29) (ix2 n 0), X (Proc.devRef .tc main_v30) (ix2 n 0),
        X (Proc.devRef .tc main_v31) (ix2 n 0), X (Proc.devRef .tc main_v32) (ix2 n 0),
        X (Proc.devRef .tc main_v33) (ix2 n 0)⟩ k := by
  dsimp only [hostOps1, List.drop]
  after_results
  clean_types
  pointwise
  fin_vals k with hk
  all_goals simp only [hk, Nat.reduceSub, Nat.reduceLT, ↓reduceDIte]
  · obtain rfl : k = 0 := Fin.ext hk
    rfl
  · obtain rfl : k = 1 := Fin.ext hk
    rfl
  · obtain rfl : k = 2 := Fin.ext hk
    rfl
  · obtain rfl : k = 3 := Fin.ext hk
    rfl
  · obtain rfl : k = 4 := Fin.ext hk
    rfl
  · obtain rfl : k = 5 := Fin.ext hk
    rfl
  · obtain rfl : k = 6 := Fin.ext hk
    rfl

/-- The columns are the planes, a ray a row. -/
theorem columns (W : Valuation τ sig (Elt Ideal)) (n : Fin 32768) :
    after (hostOps1.take 14) W (Proc.devRef .tc main_v27) (ix2 n 0) = W (Proc.devRef .tc main_v19_0) (ix2 (row n) (lane n)) ∧
    after (hostOps1.take 14) W (Proc.devRef .tc main_v28) (ix2 n 0) = W (Proc.devRef .tc main_v19_1) (ix2 (row n) (lane n)) ∧
    after (hostOps1.take 14) W (Proc.devRef .tc main_v29) (ix2 n 0) = W (Proc.devRef .tc main_v19_2) (ix2 (row n) (lane n)) ∧
    after (hostOps1.take 14) W (Proc.devRef .tc main_v30) (ix2 n 0) = W (Proc.devRef .tc main_v19_3) (ix2 (row n) (lane n)) ∧
    after (hostOps1.take 14) W (Proc.devRef .tc main_v31) (ix2 n 0) = W (Proc.devRef .tc main_v19_4) (ix2 (row n) (lane n)) ∧
    after (hostOps1.take 14) W (Proc.devRef .tc main_v32) (ix2 n 0) = W (Proc.devRef .tc main_v19_5) (ix2 (row n) (lane n)) ∧
    after (hostOps1.take 14) W (Proc.devRef .tc main_v33) (ix2 n 0) = W (Proc.devRef .tc main_v19_6) (ix2 (row n) (lane n)) := by
  dsimp only [hostOps1, List.take]
  refine ⟨?_, ?_, ?_, ?_, ?_, ?_, ?_⟩ <;> (after_results; clean_types; pointwise)

/-- The operations after the call, from the planes to the result. -/
theorem joined (W : Valuation τ sig (Elt Ideal)) (n : Fin 32768) (k : Fin 7) :
    after hostOps1 W (Proc.devRef .tc main_v34) (ix2 n k) =
      comp ⟨W (Proc.devRef .tc main_v19_0) (ix2 (row n) (lane n)), W (Proc.devRef .tc main_v19_1) (ix2 (row n) (lane n)),
        W (Proc.devRef .tc main_v19_2) (ix2 (row n) (lane n)), W (Proc.devRef .tc main_v19_3) (ix2 (row n) (lane n)),
        W (Proc.devRef .tc main_v19_4) (ix2 (row n) (lane n)), W (Proc.devRef .tc main_v19_5) (ix2 (row n) (lane n)),
        W (Proc.devRef .tc main_v19_6) (ix2 (row n) (lane n))⟩ k := by
  obtain ⟨h0, h1, h2, h3, h4, h5, h6⟩ := columns W n
  rw [← h0, ← h1, ← h2, ← h3, ← h4, ← h5, ← h6]
  exact side_by_side (after (hostOps1.take 14) W) n k

variable (m : (ℓ : Loc nD τ sig) → Buf (Elt Ideal) ℓ) (ρ : Dev nD → PrngReg)

/-- The buffers when the call has returned. -/
abbrev returned (c : Dev nD) : Valuation τ sig (Elt Ideal) :=
  Pipeline.withArrays cfg0.spec c (V0 m c) fun w => (dats m 0 c).arrAt w cfg0.N

/-- A window's array when the call has returned. -/
theorem returned_arr (c : Dev nD) (w : Fin cfg0.W) :
    returned m c (Proc.devRef .tc (Pipeline.arrRef cfg0.spec w)) = (dats m 0 c).arrAt w cfg0.N :=
  Pipeline.withArrays_arr cfg0.spec launch0.win.arr_inj c (V0 m c) (fun w => (dats m 0 c).arrAt w cfg0.N) w

/-- A ray's seven numbers make the ray. -/
theorem comp_eta (X : Ray) : (⟨comp X 0, comp X 1, comp X 2, comp X 3, comp X 4, comp X 5, comp X 6⟩ : Ray) = X := rfl

/-- The program's result: every ray after a hundred bounces. -/
theorem result_eq (c : Dev nD) : Pipeline.afterTail₀ cfgs (dats m) 0 (V0 m) [hostOps1] c main_v34
    = result (a0 m c) (a1 m c) (a2 m c) (a3 m c) (a4 m c) (a5 m c) := by
  funext j
  rw [eq_ix2 j]
  obtain ⟨⟨r0, r1, r2⟩, r3, r4, r5, r6⟩ := arrays m c
  refine (joined (returned m c) (j 0) (j 1)).trans ?_
  refine Eq.trans (congrArg (fun X => comp X (j 1)) ?_) (congrArg (fun n => comp (final m c n) (j 1)) (no_row_lane (j 0)))
  rw [show returned m c (Proc.devRef .tc main_v19_0) = out m c 0 from (returned_arr m c 10).trans r0,
    show returned m c (Proc.devRef .tc main_v19_1) = out m c 1 from (returned_arr m c 11).trans r1,
    show returned m c (Proc.devRef .tc main_v19_2) = out m c 2 from (returned_arr m c 12).trans r2,
    show returned m c (Proc.devRef .tc main_v19_3) = out m c 3 from (returned_arr m c 13).trans r3,
    show returned m c (Proc.devRef .tc main_v19_4) = out m c 4 from (returned_arr m c 14).trans r4,
    show returned m c (Proc.devRef .tc main_v19_5) = out m c 5 from (returned_arr m c 15).trans r5,
    show returned m c (Proc.devRef .tc main_v19_6) = out m c 6 from (returned_arr m c 16).trans r6]
  exact comp_eta _

/-- The program's run: its result is every ray after a hundred bounces, and the six arguments end unchanged. -/
theorem run_value : θ_run defs (onTc (τ := τ) (main (F := Ideal))) ⟨m, fun _ => 0, ρ⟩ (fun r => ∀ c : Dev nD,
    r.2.mem ((c.tc : Thread nD τ).loc main_v34) = result (a0 m c) (a1 m c) (a2 m c) (a3 m c) (a4 m c) (a5 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun _ h c => ⟨((h.1.1 c).2 main_v34 (Pipeline.mem_restRefs_of main_v34 (by decide) (by decide))).trans
    (result_eq m c), h.2.1 c⟩) (θ_run_and (Cert.Proof.Ideal.run_main m ρ) (Cert.Proof.Ideal.frame m ρ))

end Cert.Ray.Ker
-- ==== Proof.lean ====
module

public import proofs.«01_k».proof.Defs
public import proofs.«01_k».proof.Proof.MachineFrame
public import proofs.«01_k».proof.Proof.Frame
public import proofs.«01_k».proof.Proof.RefValue
public import proofs.«01_k».proof.Proof.KernelResult
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

/-!
  The claim, assembled.
-/

@[expose] public section

noncomputable section

namespace Cert.Proof

open Idealize.ShloMosaic Idealize.SL.Sem

/-- The reference ends with its arguments unchanged and every semaphore counter at zero (it has none). -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- At the same arguments the kernel and the reference end with the same result over the extended reals: every ray after
    a hundred bounces. -/
theorem same_result : Cert.algebraic_KernelIdeal_ReferenceIdeal := fun m g m' g' _ h =>
  ⟨fun c => Ray.result (Ray.Ker.a0 m c) (Ray.Ker.a1 m c) (Ray.Ker.a2 m c) (Ray.Ker.a3 m c) (Ray.Ker.a4 m c) (Ray.Ker.a5 m c),
    Ray.Ker.run_value m g,
    (θ_run Cert.ReferenceIdeal.defs _ _).mono (fun r hr c => ⟨by
      obtain ⟨h0, h1, h2, h3, h4, h5⟩ := h c
      refine ((hr c).1.trans (Ray.Ref.out_eq m' c)).trans ?_
      dsimp only [Ray.Ref.a0, Ray.Ref.a1, Ray.Ref.a2, Ray.Ref.a3, Ray.Ref.a4, Ray.Ref.a5]
      rw [h0, h1, h2, h3, h4, h5], (hr c).2⟩)
    (Cert.ReferenceIdeal.Value.run m' g')⟩

/-- Everything the certificate claims: the three frames, that the ideal kernel is the kernel's own code, and the equal
    results. -/
theorem claim : Cert.Claim :=
  ⟨Cert.Kernel.Gen.facts, Cert.KernelIdeal.Gen.facts, Cert.ReferenceIdeal.Gen.facts,
    fun m g _ => Machine.frame m g, fun m g _ => Ideal.frame m g, frame_reference, trivial,
    same_result⟩

end Cert.Proof
